-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x2048 : Shape := ⟨2, ![4096, 2048]⟩
abbrev S1 : Shape := ⟨1, ![1]⟩
abbrev S1024x2048 : Shape := ⟨2, ![1024, 2048]⟩
abbrev S3x2x512x1024 : Shape := ⟨4, ![3, 2, 512, 1024]⟩
abbrev S2x512x1024 : Shape := ⟨3, ![2, 512, 1024]⟩
abbrev S2x1024x2048 : Shape := ⟨3, ![2, 1024, 2048]⟩
abbrev S3x2 : Shape := ⟨2, ![3, 2]⟩
abbrev S2 : Shape := ⟨1, ![2]⟩
abbrev S_ : Shape := ⟨0, ![]⟩
abbrev S1x512x1024 : Shape := ⟨3, ![1, 512, 1024]⟩
abbrev S512x1024 : Shape := ⟨2, ![512, 1024]⟩
abbrev S1x1x512x1024 : Shape := ⟨4, ![1, 1, 512, 1024]⟩
abbrev S1x1 : Shape := ⟨2, ![1, 1]⟩
abbrev S1x1024x2048 : Shape := ⟨3, ![1, 1024, 2048]⟩
abbrev S512x2048 : Shape := ⟨2, ![512, 2048]⟩

abbrev nBuf : Space → Nat
  | .hbm => 5
  | .vmem => 6
  | .smem => 2
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S1024x2048, .f32⟩
  | .local _ .vmem, ⟨0, _⟩ => ⟨S1024x2048, .f32⟩
  | .local _ .vmem, ⟨1, _⟩ => ⟨S3x2x512x1024, .fp8e5m2⟩
  | .local _ .vmem, ⟨2, _⟩ => ⟨S3x2x512x1024, .fp8e5m2⟩
  | .local _ .vmem, ⟨3, _⟩ => ⟨S2x512x1024, .fp8e5m2⟩
  | .local _ .vmem, ⟨4, _⟩ => ⟨S2x512x1024, .f32⟩
  | .local _ .vmem, ⟨5, _⟩ => ⟨S2x1024x2048, .f32⟩
  | .local _ .smem, ⟨0, _⟩ => ⟨S1, .f32⟩
  | .local _ .smem, ⟨1, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg2_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 32 := Scalar.addi v2 c1_i32_1
  let c4_i32_2 : BitVec 32 := 4#32
  let v8 : BitVec 32 := Scalar.remsi v7 c4_i32_2
  let c1_i32_4 : BitVec 32 := 1#32
  let v9 : BitVec 32 := Scalar.muli v8 c1_i32_4
  let v10 : BitVec 32 := Scalar.addi c0_i32 v9
  v10.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v11 : BitVec 32 := Scalar.addi v2 c2_i32
  let c4_i32_5 : BitVec 32 := 4#32
  let v12 : BitVec 32 := Scalar.remsi v11 c4_i32_5
  let c1_i32_7 : BitVec 32 := 1#32
  let v13 : BitVec 32 := Scalar.muli v12 c1_i32_7
  let v14 : BitVec 32 := Scalar.addi c0_i32_8 v13
  v14.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v15 : BitVec 32 := Scalar.addi v2 c3_i32
  let c4_i32_9 : BitVec 32 := 4#32
  let v16 : BitVec 32 := Scalar.remsi v15 c4_i32_9
  let c1_i32_11 : BitVec 32 := 1#32
  let v17 : BitVec 32 := Scalar.muli v16 c1_i32_11
  let v18 : BitVec 32 := Scalar.addi c0_i32_12 v17
  v18.toNat
def k0_off1 (d0 : Dev nD) (c1_i32_13 : BitVec 32) (c0_i32_15 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v19 : BitVec 32 := Scalar.addi v2 c1_i32_13
  let c4_i32_14 : BitVec 32 := 4#32
  let v20 : BitVec 32 := Scalar.remsi v19 c4_i32_14
  let c1024_i32 : BitVec 32 := 1024#32
  let v21 : BitVec 32 := Scalar.muli v20 c1024_i32
  let v22 : BitVec 32 := Scalar.addi v21 c0_i32_15
  let c0_i32_63 : BitVec 32 := 0#32
  ![v22.toNat, 0]
def k0_dev4 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_82 : BitVec 32 := 1#32
  let v88 : BitVec 32 := Scalar.addi v2 c1_i32_82
  let c4_i32_83 : BitVec 32 := 4#32
  let v89 : BitVec 32 := Scalar.remsi v88 c4_i32_83
  let c1_i32_92 : BitVec 32 := 1#32
  let v90 : BitVec 32 := Scalar.muli v89 c1_i32_92
  let v91 : BitVec 32 := Scalar.addi c0_i32_93 v90
  v91.toNat
def k0_dev5 (d0 : Dev nD) : Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_114 : BitVec 32 := 1#32
  let v116 : BitVec 32 := Scalar.addi v2 c1_i32_114
  let c4_i32_115 : BitVec 32 := 4#32
  let v117 : BitVec 32 := Scalar.remsi v116 c4_i32_115
  let c1_i32_124 : BitVec 32 := 1#32
  let v118 : BitVec 32 := Scalar.muli v117 c1_i32_124
  let v119 : BitVec 32 := Scalar.addi c0_i32_125 v118
  v119.toNat
def k0_off2 (d0 : Dev nD) (c0_i32_43 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v51 : BitVec 32 := Scalar.subi v2 c0_i32_43
  let c4_i32_44 : BitVec 32 := 4#32
  let v52 : BitVec 32 := Scalar.addi v51 c4_i32_44
  let c4_i32_45 : BitVec 32 := 4#32
  let v53 : BitVec 32 := Scalar.remsi v52 c4_i32_45
  let c1024_i32_46 : BitVec 32 := 1024#32
  let v54 : BitVec 32 := Scalar.muli v53 c1024_i32_46
  let c0_i32_139 : BitVec 32 := 0#32
  ![v54.toNat, 0]
def k0_dev6 (d0 : Dev nD) : Nat :=
  let c0_i32_163 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_152 : BitVec 32 := 2#32
  let v149 : BitVec 32 := Scalar.addi v2 c2_i32_152
  let c4_i32_153 : BitVec 32 := 4#32
  let v150 : BitVec 32 := Scalar.remsi v149 c4_i32_153
  let c1_i32_162 : BitVec 32 := 1#32
  let v151 : BitVec 32 := Scalar.muli v150 c1_i32_162
  let v152 : BitVec 32 := Scalar.addi c0_i32_163 v151
  v152.toNat
def k0_dev7 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_185 : BitVec 32 := 2#32
  let v177 : BitVec 32 := Scalar.addi v2 c2_i32_185
  let c4_i32_186 : BitVec 32 := 4#32
  let v178 : BitVec 32 := Scalar.remsi v177 c4_i32_186
  let c1_i32_195 : BitVec 32 := 1#32
  let v179 : BitVec 32 := Scalar.muli v178 c1_i32_195
  let v180 : BitVec 32 := Scalar.addi c0_i32_196 v179
  v180.toNat
def k0_dev8 (d0 : Dev nD) : Nat :=
  let c0_i32_228 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_217 : BitVec 32 := 3#32
  let v205 : BitVec 32 := Scalar.addi v2 c3_i32_217
  let c4_i32_218 : BitVec 32 := 4#32
  let v206 : BitVec 32 := Scalar.remsi v205 c4_i32_218
  let c1_i32_227 : BitVec 32 := 1#32
  let v207 : BitVec 32 := Scalar.muli v206 c1_i32_227
  let v208 : BitVec 32 := Scalar.addi c0_i32_228 v207
  v208.toNat
def k0_dev9 (d0 : Dev nD) : Nat :=
  let c0_i32_261 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_250 : BitVec 32 := 3#32
  let v233 : BitVec 32 := Scalar.addi v2 c3_i32_250
  let c4_i32_251 : BitVec 32 := 4#32
  let v234 : BitVec 32 := Scalar.remsi v233 c4_i32_251
  let c1_i32_260 : BitVec 32 := 1#32
  let v235 : BitVec 32 := Scalar.muli v234 c1_i32_260
  let v236 : BitVec 32 := Scalar.addi c0_i32_261 v235
  v236.toNat
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Protocol.lean ====
/- The exchange between the four devices, as a one-round schedule: which semaphore cells there are,
   who pays into each, how much, and what a payment hands over. Everything here is over any float
   values `F`, so that both the floats of the compiled program and the extended reals are covered at once. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's cells, the exchange's cells (duties named by `Fin 3`), local counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ)

/-! ## Who sends to whom -/

set_option backward.proofsInPublic true in
/-- The device `j + 1` places after `c` around the ring. -/
def fwd (c : Dev nD) (j : Fin 3) : Dev nD := ⟨(c.val + (j.val + 1)) % 4, Nat.mod_lt _ (by decide)⟩

/-- The opposite hop: going `j + 1` places on and then `3 - j` places on is a whole turn. -/
abbrev opp (j : Fin 3) : Fin 3 := Fin.rev j

theorem fwd_opp (c : Dev nD) (j : Fin 3) : fwd (fwd c j) (opp j) = c := by revert c j; decide
theorem opp_fwd (c : Dev nD) (j : Fin 3) : fwd (fwd c (opp j)) j = c := by revert c j; decide

/-- The turn by `j + 1` places as a permutation of the devices. -/
def turn (j : Fin 3) : Dev nD ≃ Dev nD := ⟨fun c => fwd c j, fun c => fwd c (opp j), fun c => fwd_opp c j, fun c => opp_fwd c j⟩

/-! ## Semaphores and cells -/

/-- The runtime's barrier semaphore. -/
abbrev barS : Sem sig := (SemArray.scalar (sig.barrier 0 rfl) : Sems sig S_).sem

set_option backward.proofsInPublic true in
/-- The send semaphore of hop `j`, half `k`; -/
def sendS (j : Fin 3) (k : Fin 2) : DmaSem sig := (⟨3 + (2 * j.val + k.val), by have := j.isLt; have := k.isLt; omega⟩ : Fin 19)
set_option backward.proofsInPublic true in
/-- the receive semaphore of hop `j`, half `k`; -/
def recvS (j : Fin 3) (k : Fin 2) : DmaSem sig := (⟨9 + (2 * j.val + k.val), by have := j.isLt; have := k.isLt; omega⟩ : Fin 19)
set_option backward.proofsInPublic true in
/-- the semaphore of the fetches into slot `s` of the activations' buffer; -/
def xS (s : Fin 2) : DmaSem sig := (⟨15 + s.val, by have := s.isLt; omega⟩ : Fin 19)
set_option backward.proofsInPublic true in
/-- the semaphore of the fetches into slot `s` of the weights' buffer. -/
def wS (s : Fin 2) : DmaSem sig := (⟨17 + s.val, by have := s.isLt; omega⟩ : Fin 19)

abbrev barCell (c : Dev nD) : GSem nD τ sig := ((c : Thread nD τ), .reg barS)
abbrev sendCell (c : Dev nD) (j : Fin 3) (k : Fin 2) : GSem nD τ sig := ((c : Thread nD τ), .dma (sendS j k))
abbrev recvCell (c : Dev nD) (j : Fin 3) (k : Fin 2) : GSem nD τ sig := ((c : Thread nD τ), .dma (recvS j k))

/-- A DMA semaphore read as: a send semaphore, a receive semaphore (with hop and half), or another. -/
def IsSend (q : DmaSem sig) : Prop := ∃ j k, q = sendS j k
def IsRecv (q : DmaSem sig) : Prop := ∃ j k, q = recvS j k
instance : DecidablePred IsSend := fun q => by unfold IsSend; infer_instance
instance : DecidablePred IsRecv := fun q => by unfold IsRecv; infer_instance

set_option backward.proofsInPublic true in
/-- The hop a send or receive semaphore belongs to, -/
def hopOf (q : DmaSem sig) : Fin 3 := ⟨((q.val - 3) % 6 / 2) % 3, Nat.mod_lt _ (by decide)⟩
set_option backward.proofsInPublic true in
/-- and its half. -/
def halfOf (q : DmaSem sig) : Fin 2 := ⟨(q.val - 3) % 2, Nat.mod_lt _ (by decide)⟩

theorem hopOf_send : ∀ j k, hopOf (sendS j k) = j := by decide
theorem halfOf_send : ∀ j k, halfOf (sendS j k) = k := by decide
theorem hopOf_recv : ∀ j k, hopOf (recvS j k) = j := by decide
theorem halfOf_recv : ∀ j k, halfOf (recvS j k) = k := by decide
theorem not_isRecv_send : ∀ j k, ¬ IsRecv (sendS j k) := by decide
theorem isRecv_recv (j : Fin 3) (k : Fin 2) : IsRecv (recvS j k) := ⟨j, k, rfl⟩
theorem isSend_send (j : Fin 3) (k : Fin 2) : IsSend (sendS j k) := ⟨j, k, rfl⟩

/-! ## Buffers and their slots -/

abbrev xM : Memref sig .tc .hbm S4096x1024 .f32 := Memref.whole main_arg0
abbrev wM : Memref sig .tc .hbm S4096x2048 .f32 := Memref.whole main_arg1
abbrev outM : Memref sig .tc .vmem S1024x2048 .f32 := Memref.whole cc0_stg2_0
abbrev sM : Memref sig .tc .vmem S3x2x512x1024 .fp8e5m2 := Memref.whole cc0_scratch0
abbrev rM : Memref sig .tc .vmem S3x2x512x1024 .fp8e5m2 := Memref.whole cc0_scratch1
abbrev oM : Memref sig .tc .vmem S2x512x1024 .fp8e5m2 := Memref.whole cc0_scratch2
abbrev xtM : Memref sig .tc .vmem S2x512x1024 .f32 := Memref.whole cc0_scratch3
abbrev wtM : Memref sig .tc .vmem S2x1024x2048 .f32 := Memref.whole cc0_scratch4

theorem inb4 : ∀ (j : Fin 3) (k : Fin 2), ∀ a, (![j.val, k.val, 0, 0] : Fin 4 → ℕ) a + S1x1x512x1024.size a ≤ S3x2x512x1024.size a := by decide
theorem inb3x : ∀ (s : Fin 2), ∀ a, (![s.val, 0, 0] : Fin 3 → ℕ) a + S1x512x1024.size a ≤ S2x512x1024.size a := by decide
theorem inb3w : ∀ (s : Fin 2), ∀ a, (![s.val, 0, 0] : Fin 3 → ℕ) a + S1x1024x2048.size a ≤ S2x1024x2048.size a := by decide
theorem inbo : ∀ (k : Fin 2), ∀ a, (![512 * k.val, 0] : Fin 2 → ℕ) a + S512x2048.size a ≤ S1024x2048.size a := by decide

/-- Slot `(j, k)` of a buffer of six transferred blocks; -/
abbrev r4 (j : Fin 3) (k : Fin 2) : Rect S3x2x512x1024 := Rect.unit (s := S3x2x512x1024) ![j.val, k.val, 0, 0] S1x1x512x1024.size (inb4 j k)
/-- slot `s` of a buffer of two blocks of activations; -/
abbrev r3x (s : Fin 2) : Rect S2x512x1024 := Rect.unit (s := S2x512x1024) ![s.val, 0, 0] S1x512x1024.size (inb3x s)
/-- slot `s` of the buffer of two blocks of weights; -/
abbrev r3w (s : Fin 2) : Rect S2x1024x2048 := Rect.unit (s := S2x1024x2048) ![s.val, 0, 0] S1x1024x2048.size (inb3w s)
/-- half `k` of the result's rows. -/
abbrev ro (k : Fin 2) : Rect S1024x2048 := Rect.unit (s := S1024x2048) ![512 * k.val, 0] S512x2048.size (inbo k)

/-- The elements of a view held in full on device `c`, reading as `X`. -/
def held {sp : Space} {s : Shape} {e : EltTy} (c : Dev nD) (v : View sig .tc sp s e) (X : s.Idx → Elt F e) : sProp 𝕄 :=
  iprop(∃ f : Buf (Elt F) (v.loc (c : Thread nD τ)), ⌜v.read (Elt F) f = X⌝ ∗ (v.loc (c : Thread nD τ) ↦[v.set]{fullShare} f))

omit [FloatOps F] in
instance held_storable {sp : Space} {s : Shape} {e : EltTy} (c : Dev nD) (v : View sig .tc sp s e) (X : s.Idx → Elt F e) :
    BI.Storable (upEmb : UEmb _ 𝕄) (held (F := F) c v X) := by unfold held; infer_instance

/-- Slot `(j, k)` of the send buffer and of the receive buffer. -/
abbrev sV (j : Fin 3) (k : Fin 2) : View sig .tc .vmem S1x1x512x1024 .fp8e5m2 := (sM : Memref sig .tc .vmem S3x2x512x1024 .fp8e5m2).access (r4 j k)
abbrev rV (j : Fin 3) (k : Fin 2) : View sig .tc .vmem S1x1x512x1024 .fp8e5m2 := (rM : Memref sig .tc .vmem S3x2x512x1024 .fp8e5m2).access (r4 j k)

theorem sq4 : S512x1024.numel = S1x1x512x1024.numel := by decide
theorem sqx : S512x1024.numel = S1x512x1024.numel := by decide
theorem sqw : S1024x2048.numel = S1x1024x2048.numel := by decide

/-- The credit of one transferred block. -/
abbrev N : ℕ := ((rV 0 0).reshape S512x1024 sq4).dmaCredit
theorem N_pos : 0 < N := View.dmaCredit_pos _ (by decide)

/-! ## Contents -/

/-- The block of `x` that device `c` fetches for hop `h` (`0`: its own rows), half `k`: the rows of the device `h` places on. -/
def xRows (c : Dev nD) (h : Fin 4) (k : Fin 2) : S512x1024.Idx → Elt F .f32 :=
  ((xM : Memref sig .tc .hbm S4096x1024 .f32).access (Rect.unit (s := S4096x1024) (k0_off1 c (BitVec.ofNat 32 h.val) (BitVec.ofNat 32 (512 * k.val))) S512x1024.size (k0_off1_inb c h k))).read
    (Elt F) (m ((c : Thread nD τ).loc main_arg0))

/-- The block of `w` that device `c` fetches for hop `h`: the rows matching the columns of `x` held by the device `h` places back. -/
def wRows (c : Dev nD) (h : Fin 4) : S1024x2048.Idx → Elt F .f32 :=
  ((wM : Memref sig .tc .hbm S4096x2048 .f32).access (Rect.unit (s := S4096x2048) (k0_off2 c (BitVec.ofNat 32 h.val)) S1024x2048.size (k0_off2_inb c h))).read
    (Elt F) (m ((c : Thread nD τ).loc main_arg1))

/-- A block as it reads in a slot with one or two leading unit axes. -/
abbrev inSlot {s s' : Shape} {A : Type} (h : s'.numel = s.numel) (w : s'.Idx → A) : s.Idx → A := fun x => w ((Shape.reshapeEquiv h).symm x)

/-- What device `c` sends at hop `j`, half `k`: the rows of `x` belonging to `fwd c j`, rounded to the transfer's format. -/
def sent (c : Dev nD) (j : Fin 3) (k : Fin 2) : S1x1x512x1024.Idx → Elt F .fp8e5m2 := k0_pay4 (inSlot sqx (xRows m c j.succ k))

/-! ## The schedule -/

/-- One slot to receive into, whatever it holds, and that its receive cell has begun. -/
def slotReady (c : Dev nD) (j : Fin 3) (k : Fin 2) : sProp 𝕄 := iprop((∃ X, held (F := F) c (rV j k) X) ∗ reached ER (recvCell c j k) 0)

/-- What duty `j` of device `c`'s barrier cell hands it, paid by `fwd c j`: the two slots of that device which `c` sends into. -/
def barPay (c : Dev nD) (j : Fin 3) : sProp 𝕄 := iprop(slotReady (F := F) (fwd c j) j 0 ∗ slotReady (F := F) (fwd c j) j 1)
/-- What the arrival of a block hands device `c`: the slot holding what the sender sent. -/
def recvPay (c : Dev nD) (j : Fin 3) (k : Fin 2) : sProp 𝕄 := held c (rV j k) (sent m (fwd c (opp j)) j k)
/-- What the end of a transfer hands the sender: its slot back. -/
def sendPay (c : Dev nD) (j : Fin 3) (k : Fin 2) : sProp 𝕄 := iprop(∃ X, held (F := F) c (sV j k) X)

omit [FloatOps F] in
instance barPay_storable (c : Dev nD) (j : Fin 3) : BI.Storable (upEmb : UEmb _ 𝕄) (barPay (F := F) c j) := by unfold barPay slotReady; infer_instance
instance recvPay_storable (c : Dev nD) (j : Fin 3) (k : Fin 2) : BI.Storable (upEmb : UEmb _ 𝕄) (recvPay (F := F) m c j k) := by unfold recvPay; infer_instance
omit [FloatOps F] in
instance sendPay_storable (c : Dev nD) (j : Fin 3) (k : Fin 2) : BI.Storable (upEmb : UEmb _ 𝕄) (sendPay (F := F) c j k) := by unfold sendPay; infer_instance

/-- The duties of a cell in round 0. -/
def roundDuties (g : GSem nD τ sig) : Finset (Fin 3) :=
  if g.1.2 = .tc then
    match g.2 with
    | .reg s => if s = barS then Finset.univ else ∅
    | .dma q => if IsRecv q ∨ IsSend q then {0} else ∅
  else ∅

/-- The payload of a cell's duty. -/
def cellPay (g : GSem nD τ sig) (d : Fin 3) : sProp 𝕄 :=
  match g.2 with
  | .reg _ => barPay g.1.1 d
  | .dma q => if IsRecv q then recvPay m g.1.1 (hopOf q) (halfOf q) else sendPay g.1.1 (hopOf q) (halfOf q)

/-- One round. A barrier cell has three duties of one unit; a send or receive cell one duty of a block's credit. -/
def sched : Rounds.Schedule (GSem nD τ sig) (Fin 3) 𝕄 where
  duties g r := if r = 0 then roundDuties g else ∅
  unitless _ := False
  amount g _ _ := if g.2 = .reg barS then 1 else N
  payload g _ d := cellPay m g d
  amount_pos g _ _ _ := by
    by_cases h : g.2 = .reg barS
    · rw [if_pos h]; exact Nat.one_pos
    · rw [if_neg h]; exact N_pos

instance sched_storable (g : GSem nD τ sig) (r : ℕ) (d : Fin 3) : BI.Storable (upEmb : UEmb _ 𝕄) ((sched (F := F) m).payload g r d) := by
  show BI.Storable upEmb (cellPay m g d)
  unfold cellPay
  split
  · infer_instance
  · split <;> infer_instance

section Tables
variable (c : Dev nD) (j : Fin 3) (k : Fin 2)

theorem dma_ne_bar (q : DmaSem sig) : (SemLoc.dma q : SemLoc sig) ≠ .reg barS := fun h => by cases h

theorem duties_bar : (sched (F := F) m).duties (barCell c) 0 = Finset.univ := by
  show (if (0 : ℕ) = 0 then roundDuties (barCell c) else ∅) = _
  rw [if_pos rfl]; exact (if_pos rfl).trans (if_pos rfl)
theorem duties_send : (sched (F := F) m).duties (sendCell c j k) 0 = {0} := by
  show (if (0 : ℕ) = 0 then roundDuties (sendCell c j k) else ∅) = _
  rw [if_pos rfl]; exact (if_pos rfl).trans (if_pos (.inr (isSend_send j k)))
theorem duties_recv : (sched (F := F) m).duties (recvCell c j k) 0 = {0} := by
  show (if (0 : ℕ) = 0 then roundDuties (recvCell c j k) else ∅) = _
  rw [if_pos rfl]; exact (if_pos rfl).trans (if_pos (.inl (isRecv_recv j k)))
theorem duties_later (g : GSem nD τ sig) : ∀ r, 1 ≤ r → (sched (F := F) m).duties g r = ∅ := fun r hr => if_neg (by omega)

theorem amount_bar (d : Fin 3) : (sched (F := F) m).amount (barCell c) 0 d = 1 := by dsimp only [sched]; exact if_pos rfl
theorem amount_dma (q : DmaSem sig) (d : Fin 3) : (sched (F := F) m).amount ((c : Thread nD τ), .dma q) 0 d = N := by dsimp only [sched]; exact if_neg (dma_ne_bar q)

theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c j k) 0 = N := by
  unfold Schedule.expect Schedule.amountOf; rw [duties_send, Finset.sum_singleton, amount_dma]
theorem expect_recv : (sched (F := F) m).expect (recvCell c j k) 0 = N := by
  unfold Schedule.expect Schedule.amountOf; rw [duties_recv, Finset.sum_singleton, amount_dma]

theorem payload_bar (d : Fin 3) : (sched (F := F) m).payload (barCell c) 0 d = barPay c d := rfl
theorem payload_recv (d : Fin 3) : (sched (F := F) m).payload (recvCell c j k) 0 d = recvPay m c j k := by
  show (if IsRecv (recvS j k) then recvPay m c (hopOf (recvS j k)) (halfOf (recvS j k)) else _) = _
  rw [if_pos (isRecv_recv j k), hopOf_recv, halfOf_recv]
theorem payload_send (d : Fin 3) : (sched (F := F) m).payload (sendCell c j k) 0 d = sendPay c j k := by
  show (if IsRecv (sendS j k) then _ else sendPay c (hopOf (sendS j k)) (halfOf (sendS j k))) = _
  rw [if_neg (not_isRecv_send j k), hopOf_send, halfOf_send]

/-- What a wait for the whole round of a cell hands over. -/
theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_bar, bigSep_univ_eq_bigSepL [0, 1, 2] (by decide) (by decide)]
  rfl
theorem rest_send : bigSep ((sched (F := F) m).duties (sendCell c j k) 0 \ ∅) (fun d => (sched (F := F) m).payload (sendCell c j k) 0 d) = sendPay c j k := by
  rw [Finset.sdiff_empty, duties_send, bigSep_singleton, payload_send]
theorem rest_recv : bigSep ((sched (F := F) m).duties (recvCell c j k) 0 \ ∅) (fun d => (sched (F := F) m).payload (recvCell c j k) 0 d) = recvPay m c j k := by
  rw [Finset.sdiff_empty, duties_recv, bigSep_singleton, payload_recv]

end Tables

/-! ## What each device owes -/

/-- The cells device `c` must still pay into, last first: the six receive cells of its transfers, then the three barrier cells. -/
def dueCell (c : Dev nD) : ℕ → GSem nD τ sig
  | 0 => recvCell (fwd c 2) 2 1
  | 1 => recvCell (fwd c 2) 2 0
  | 2 => recvCell (fwd c 1) 1 1
  | 3 => recvCell (fwd c 1) 1 0
  | 4 => recvCell (fwd c 0) 0 1
  | 5 => recvCell (fwd c 0) 0 0
  | 6 => barCell (fwd c 2)
  | 7 => barCell (fwd c 1)
  | _ => barCell (fwd c 0)

/-- How much it pays into each. -/
def dueAmt (n : ℕ) : ℕ := if n < 6 then N else 1

/-- What device `c` owes with `n` payments to go. -/
def owed (c : Dev nD) : ℕ → CellTallies nD τ sig Unit
  | 0 => 0
  | n + 1 => owed c n + tallyAt (dueCell c n) () (dueAmt n)

theorem owed_pos (c : Dev nD) {g : GSem nD τ sig} {u : Unit} : ∀ n, 0 < owed c n g u → ∃ i, i < n ∧ g = dueCell c i := by
  intro n
  induction n with
  | zero => intro h; exact absurd h (Nat.lt_irrefl 0)
  | succ n ih =>
    intro h
    by_cases hg : g = dueCell c n
    · exact ⟨n, Nat.lt_succ_self n, hg⟩
    · have h' : 0 < owed c n g u := by
        have h2 : 0 < (owed c n + tallyAt (dueCell c n) () (dueAmt n)) g u := h
        rw [Pi.add_apply, Finsupp.add_apply, tallyAt_apply, if_neg (fun e => hg e.1), Nat.add_zero] at h2
        exact h2
      obtain ⟨i, hi, e⟩ := ih h'
      exact ⟨i, Nat.lt_succ_of_lt hi, e⟩

/-! ## Levels: a wait is allowed while only cells of higher level are owed -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The level of a semaphore: barrier 1, receive 2, every other 0. -/
def semLv : SemLoc sig → ℕ
  | .reg s => 1
  | .dma q => if IsRecv q then 2 else 0
def lv (g : GSem nD τ sig) (_ : Unit) : ℕ := semLv g.2

theorem semLv_recv (j : Fin 3) (k : Fin 2) : semLv (.dma (recvS j k)) = 2 := if_pos (isRecv_recv j k)

theorem dueCell_tc (c : Dev nD) (i : ℕ) : (dueCell c i).1.2 = .tc := by unfold dueCell; split <;> rfl
theorem dueCell_lv (c : Dev nD) (i : ℕ) : 1 ≤ semLv (dueCell c i).2 := by
  unfold dueCell; split <;> first | exact le_refl 1 | (rw [semLv_recv]; exact one_le_two)
theorem dueCell_lv2 (c : Dev nD) {i : ℕ} (hi : i < 6) : semLv (dueCell c i).2 = 2 := by
  match i, hi with
  | 0, _ | 1, _ | 2, _ | 3, _ | 4, _ | 5, _ => exact semLv_recv _ _

omit [FloatOps F] in
/-- A wait at level `n` is allowed while everything owed lies above. -/
theorem mayWait_of (c : Dev nD) (sm : SemLoc sig) (n : ℕ) (hsm : semLv sm < n) (K : ℕ) (hK : ∀ i, i < K → n ≤ semLv (dueCell c i).2) :
    (levAts L lv : sProp 𝕄) ⊢ MayWait (c : Thread nD τ) sm () (owed c K) :=
  MayOwe.of_cut (L := L) (lev := lv) (n - 1) (fun p hp => by rw [Finset.mem_singleton.mp hp, L_tc]; exact Finset.mem_singleton_self _)
    (fun g u hg => by
      obtain ⟨i, -, rfl⟩ := owed_pos c K hg
      unfold L; rw [if_pos (dueCell_tc c i)]; exact Finset.mem_singleton_self _)
    (fun p hp => by rw [Finset.mem_singleton.mp hp]; show semLv sm ≤ n - 1; omega)
    (fun g u hg => by
      obtain ⟨i, hi, rfl⟩ := owed_pos c K hg
      have := hK i hi
      show n - 1 < semLv (dueCell c i).2; omega)

omit [FloatOps F] in
/-- A wait on a local semaphore (a fetch, a staging copy) is allowed whatever is owed. -/
theorem mayWait_local (c : Dev nD) (q : DmaSem sig) (hq : ¬ IsRecv q) (K : ℕ) :
    (levAts L lv : sProp 𝕄) ⊢ MayWait (c : Thread nD τ) (.dma q) () (owed c K) :=
  mayWait_of c _ 1 (by show (if IsRecv q then 2 else 0) < 1; rw [if_neg hq]; decide) K fun i _ => dueCell_lv c i

omit [FloatOps F] in
/-- The barrier wait is allowed while the six transfers are owed. -/
theorem mayWait_bar (c : Dev nD) : (levAts L lv : sProp 𝕄) ⊢ MayWait (c : Thread nD τ) (.reg barS) () (owed c 6) :=
  mayWait_of c _ 2 (by show 1 < 2; decide) 6 fun i hi => (dueCell_lv2 c hi).ge

end Cert.Exchange

end
-- ==== Proof.Steps.lean ====
/- One rule for each kind of statement the kernel runs, over the slots of its buffers: a fetch begun
   and awaited, a load, a store, the entry signals and their wait, a block sent, received, and its
   slot given back. Each is stated once, for every slot, hop and half. -/
module

public import proofs.«01_k».proof.Proof.Protocol

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What all devices know: every cell's invariant, that every cell has begun, the levels -/

/-- A device's cells: its barrier cell, then by (is it a receive cell?), hop and half the cells of its transfers. -/
abbrev CIx : Type := Option (Bool × Fin 3 × Fin 2)
def csem : CIx → SemLoc sig
  | none => .reg barS
  | some (false, j, k) => .dma (sendS j k)
  | some (true, j, k) => .dma (recvS j k)
abbrev kcell (x : Dev nD × CIx) : GSem nD τ sig := ((x.1 : Thread nD τ), csem x.2)

def world (K : Dev nD × CIx → ℕ) : sProp 𝕄 :=
  iprop((bigSep Finset.univ fun x : Dev nD × CIx => cellInv ER (sched m) (K x) (kcell x))
    ∗ (bigSep Finset.univ fun x : Dev nD × CIx => reached ER (kcell x) 0) ∗ levAts L lv)

instance world_persistent (K : Dev nD × CIx → ℕ) : BI.Persistent (world m K) := by unfold world; infer_instance

theorem world_inv (K : Dev nD × CIx → ℕ) (x : Dev nD × CIx) : world m K ⊢ cellInv ER (sched m) (K x) (kcell x) := by
  unfold world
  have h : (bigSep Finset.univ fun x : Dev nD × CIx => (cellInv ER (sched m) (K x) (kcell x) : sProp 𝕄)) ⊢ cellInv ER (sched m) (K x) (kcell x) :=
    bigSep_elim (Finset.mem_univ x)
  iintro ⟨H, -, -⟩
  iapply h $$ H
theorem world_reached (K : Dev nD × CIx → ℕ) (x : Dev nD × CIx) : world m K ⊢ reached ER (kcell x) 0 := by
  unfold world
  have h : (bigSep Finset.univ fun x : Dev nD × CIx => (reached ER (kcell x) 0 : sProp 𝕄)) ⊢ reached ER (kcell x) 0 :=
    bigSep_elim (Finset.mem_univ x)
  iintro ⟨-, H, -⟩
  iapply h $$ H
theorem world_lev (K : Dev nD × CIx → ℕ) : world m K ⊢ levAts L lv := by
  unfold world
  iintro ⟨-, -, H⟩
  iexact H

/-- What device `c` owes with `n` payments to go, whatever it has waited for so far. -/
def owing (c : Dev nD) (n : ℕ) : sProp 𝕄 := iprop(∃ W, owes (c : Thread nD τ) (owed c n) W)

/-- A fetch under way: when it completes, the slot holds what was read, and the array's share is whole again. -/
def fetching {sp : Space} {s s' : Shape} {e : EltTy} (c : Dev nD) (q : DmaSem sig) (n : ℕ) (π : PosShare TreeShare) (sv : View sig .tc .hbm s' e)
    (f : Buf (Elt F) (sv.loc (c : Thread nD τ))) (dv : View sig .tc sp s e) (X : s.Idx → Elt F e) : sProp 𝕄 :=
  iprop(Transfers.Flight EC (c : Thread nD τ) (.dma q) () n iprop(held c dv X ∗ (sv.loc (c : Thread nD τ) ↦[sv.set]{π} f))
    ∗ (sv.loc (c : Thread nD τ) ↦[Finset.univ \ sv.set]{π} f))

variable {α : Type} {Q : α → sProp (MT nD τ sig Unit (Elt F) ℕ UU ℕ)} (c : Dev nD)

/-! ## Loads and stores -/

omit [FloatOps F] in
/-- Changing what is known to be held, along an equality of contents. -/
theorem held_congr {sp : Space} {s : Shape} {e : EltTy} (v : View sig .tc sp s e) {X Y : s.Idx → Elt F e} (h : X = Y) : (held c v X : sProp 𝕄) ⊢ held c v Y := by
  subst h; exact BI.Entails.refl _

/-- A load of a slot yields its contents. -/
theorem step_load {cs : CoreSpace} {s : Shape} {e : EltTy} {M : Memref sig .tc cs s e} {r : Rect s} {X : r.shape.Idx → Elt F e}
    {hl : M.view.LoadsAt r} {k : (r.shape.Idx → Elt F e) → Prog (TpuEff nD τ sig (Elt F) Λ₀ .tc) α} :
    held c (M.access r) X
      ⊢ iprop((held c (M.access r) X -∗ wp frame (wpE (defs₀ (F := F)) 𝒱₀ (c : Thread nD τ) none) Set.univ (k X) Q)
          -∗ wp frame (wpE (defs₀ (F := F)) 𝒱₀ (c : Thread nD τ) none) Set.univ (.op (.load M r hl) k) Q) := by
  unfold held
  iintro ⟨%f, %hf, H⟩ Hk
  subst hf
  iapply (wp_load_rect 𝒱₀ (c : Thread nD τ) none Set.univ (m := M) (r := r) subset_rfl) $$ H
  iintro H
  iapply Hk
  iexists f
  isplitr; · (ipureintro; rfl)
  iexact H

/-- An unmasked store to a slot leaves it holding what was stored. -/
theorem step_store {cs : CoreSpace} {s : Shape} {e : EltTy} {M : Memref sig .tc cs s e} {r : Rect s} {X w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} :
    held c (M.access r) X
      ⊢ iprop((held c (M.access r) w -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  unfold held
  iintro ⟨%f, %hf, H⟩ Hk
  iapply (wp_store 𝒱₀ (c : Thread nD τ) none Set.univ (m := M) (r := r) (Mk := Finset.univ) (by rw [View.setOn_univ])) $$ H
  iintro H
  iapply Hk
  iexists ((M.access r).write (Elt F) f w Finset.univ)
  isplitr; · (ipureintro; exact View.read_write_univ _ _)
  iexact H

/-! ## Fetches from the arrays into a slot -/

section Squeezed
variable {cs : Space} {s' S : Shape} {e : EltTy} (M : Memref sig .tc cs S e) (r : Rect S) (hr : ∀ a, r.stride a = 1) (hsq : r.shape.Squeezes s')

omit [FloatOps F] in
/-- A slot held is held through its squeezed view, which reads it block-shaped. -/
theorem held_squeezed (X : r.shape.Idx → Elt F e) :
    (held c (M.access r) X : sProp 𝕄) ⊢ iprop(∃ g : Buf (Elt F) (((M.slice r hr).squeeze s' hsq).view.loc (c : Thread nD τ)),
      ⌜((M.slice r hr).squeeze s' hsq).view.read (Elt F) g = fun x => X (Shape.reshapeEquiv hsq.numel_eq x)⌝
      ∗ (((M.slice r hr).squeeze s' hsq).view.loc (c : Thread nD τ) ↦[((M.slice r hr).squeeze s' hsq).view.set]{fullShare} g)) := by
  unfold held
  iintro ⟨%f, %hf, H⟩
  iexists f
  isplitr
  · ipureintro; subst hf; rfl
  · rw [show ((M.slice r hr).squeeze s' hsq).view.set = (M.access r).set from View.set_reshape _ _]; iexact H

omit [FloatOps F] in
/-- A slot held through its squeezed view is held. -/
theorem squeezed_held_any (g : Buf (Elt F) (((M.slice r hr).squeeze s' hsq).view.loc (c : Thread nD τ))) :
    ((((M.slice r hr).squeeze s' hsq).view.loc (c : Thread nD τ) ↦[((M.slice r hr).squeeze s' hsq).view.set]{fullShare} g) : sProp 𝕄)
      ⊢ held c (M.access r) ((M.access r).read (Elt F) g) := by
  unfold held
  iintro H
  iexists g
  isplitr; · (ipureintro; rfl)
  rw [show (M.access r).set = ((M.slice r hr).squeeze s' hsq).view.set from (View.set_reshape _ _).symm]
  iexact H

omit [FloatOps F] in
/-- A slot written through its squeezed view holds the block written. -/
theorem squeezed_held (g : Buf (Elt F) (((M.slice r hr).squeeze s' hsq).view.loc (c : Thread nD τ))) (w : s'.Idx → Elt F e) :
    ((((M.slice r hr).squeeze s' hsq).view.loc (c : Thread nD τ) ↦[((M.slice r hr).squeeze s' hsq).view.set]{fullShare}
        (((M.slice r hr).squeeze s' hsq).view.write (Elt F) g w Finset.univ)) : sProp 𝕄)
      ⊢ held c (M.access r) (inSlot hsq.numel_eq w) := by
  refine (squeezed_held_any c M r hr hsq _).trans (held_congr c _ ?_)
  show (M.access r).read (Elt F) (((M.access r).reshape s' hsq.numel_eq).write (Elt F) g w Finset.univ) = _
  rw [View.write_reshape_univ]
  exact View.read_write_univ _ _

end Squeezed

/-- A fetch begun: out of an array held at share `π`, into a slot, on a semaphore at zero. -/
theorem step_fetch {cs : CoreSpace} {s' S : Shape} {e : EltTy} {src : Memref sig .tc .hbm s' e} {M : Memref sig .tc cs S e} {r : Rect S} {hr : ∀ a, r.stride a = 1}
    {hsq : r.shape.Squeezes s'} {q : DmaSem sig} {π : PosShare TreeShare} {X : r.shape.Idx → Elt F e} {f : Buf (Elt F) (src.view.loc (c : Thread nD τ))}
    {hsrc : src.view.WordExact} {hdst : ((M.slice r hr).squeeze s' hsq).view.WordExact}
    {hsem : DmaTarget.Typed .hbm (.dma q) (.here ((M.slice r hr).squeeze s' hsq) : DmaTarget nD τ sig (.tc : Proc τ) (.core cs) s' e)}
    {k : PUnit → Prog (TpuEff nD τ sig (Elt F) Λ₀ .tc) α} (n : ℕ) (hn : ((M.slice r hr).squeeze s' hsq).view.dmaCredit = n) (hn0 : 0 < n) :
    iprop(held c (M.access r) X ∗ (src.view.loc (c : Thread nD τ) ↦{π} f) ∗ semVal ((c : Thread nD τ), .dma q) 0)
      ⊢ iprop((fetching c q n π src.view f (M.access r) (inSlot hsq.numel_eq (src.view.read (Elt F) f))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here ((M.slice r hr).squeeze s' hsq)) (.dma q) hsrc hdst hsem) k) Q) := by
  iintro ⟨Hd, Hs, Hv⟩ Hk
  ihave Hd' := (held_squeezed c M r hr hsq X) $$ Hd
  icases Hd' with ⟨%g, -, Hd⟩
  ihave Hs' := (pointsTo_split_subset (Finset.subset_univ src.view.set)).1 $$ Hs
  icases Hs' with ⟨Hs, Hrest⟩
  iapply (Transfers.wp_dmaLocal EC 𝒱₀ (c : Thread nD τ) none (sm := .dma q) (dst := (M.slice r hr).squeeze s' hsq) (q := π) (fs := f) (fd := g) () n hn hn0 subset_rfl) $$ [Hs Hd Hv]
  · isplitl [Hs]; · iexact Hs
    isplitl [Hd]; · iexact Hd
    iexact Hv
  iintro Hf
  iapply Hk
  unfold fetching
  isplitl [Hf]
  · iapply (Transfers.Flight_mono EC (c : Thread nD τ) (sep_mono_left (squeezed_held c M r hr hsq g _))) $$ Hf
  · iexact Hrest

/-- A fetch awaited: the slot holds the block, the array's share and the semaphore at zero are back. -/
theorem step_fetched {sp sp' sp'' : Space} {s s' s₁ s₂ : Shape} {e e₁ e₂ : EltTy} {q : DmaSem sig} (K : Dev nD × CIx → ℕ) (hq : ¬ IsRecv q) {n : ℕ} {π : PosShare TreeShare}
    {sv : View sig .tc .hbm s' e} {f : Buf (Elt F) (sv.loc (c : Thread nD τ))} {dv : View sig .tc sp s e} {X : s.Idx → Elt F e} {o : ℕ}
    {srcw : Memref sig .tc sp' s₁ e₁} {dstw : Memref sig .tc sp'' s₂ e₂} {hsrc : srcw.view.WordExact} {hdst : dstw.view.WordExact}
    {k : PUnit → Prog (TpuEff nD τ sig (Elt F) Λ₀ .tc) α} (hn : dstw.view.dmaCredit = n) :
    iprop(world m K ∗ fetching c q n π sv f dv X ∗ owing c o)
      ⊢ iprop((iprop(held c dv X ∗ (sv.loc (c : Thread nD τ) ↦{π} f) ∗ semVal ((c : Thread nD τ), .dma q) 0 ∗ owing (F := F) c o)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q srcw dstw hsrc hdst) k) Q) := by
  unfold fetching owing
  iintro ⟨HW, ⟨Hf, Hrest⟩, ⟨%W, HO⟩⟩ Hk
  iapply (Transfers.wp_waitLocalO EC 𝒱₀ (c : Thread nD τ) none () hn) $$ [HW Hf HO]
  · isplitl [Hf]; · iexact Hf
    isplitl [HO]; · iexact HO
    iapply (mayWait_local c q hq o)
    iapply (world_lev m K); iexact HW
  iintro ⟨⟨Hd, Hs⟩, Hv, HO⟩
  iapply Hk
  isplitl [Hd]; · iexact Hd
  isplitl [Hs Hrest]
  · iapply (pointsTo_split_subset (Finset.subset_univ sv.set)).2
    isplitl [Hs] <;> iassumption
  isplitl [Hv]; · iexact Hv
  iexists _; iexact HO

/-! ## The entry signals -/

/-- The signal to the device `j + 1` places on: it hands over this device's two slots which that device sends into. -/
theorem step_signal (K : Dev nD × CIx → ℕ) (j : Fin 3) {n : Dev nD} (hn : n = fwd c j) {o : ℕ} (ho : dueCell c o = barCell (fwd c j)) (ha : dueAmt o = 1)
    {k : PUnit → Prog (TpuEff nD τ sig (Elt F) Λ₀ .tc) α} {X₀ X₁ : S1x1x512x1024.Idx → Elt F .fp8e5m2} :
    iprop(world m K ∗ owing c (o + 1) ∗ dutyTok ER (barCell (fwd c j)) 0 (opp j) ∗ held c (rV (opp j) 0) X₀ ∗ held c (rV (opp j) 1) X₁)
      ⊢ iprop((owing c o -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  unfold owing
  iintro ⟨#HW, ⟨%W, HO⟩, Ht, H0, H1⟩ Hk
  iapply (Rounds.wp_signal 𝒱₀ ER (sched m) (c : Thread nD τ) none (dst := (fwd c j : Thread nD τ)) (κ := K (fwd c j, none))
      (d := opp j) (by rw [duties_bar]; exact Finset.mem_univ _) (amount_bar m (fwd c j) (opp j)) () (owed c o)
      (by show owed c o + tallyAt (dueCell c o) () (dueAmt o) = _; rw [ho, ha])) $$ [HO Ht H0 H1]
  · isplitr; · iapply (world_inv m K (fwd c j, none)); iexact HW
    isplitl [HO]; · iexact HO
    isplitl [Ht]; · iexact Ht
    isplitl [H0 H1]
    · rw [payload_bar]; unfold barPay slotReady; rw [fwd_opp]
      isplitl [H0]
      · isplitl [H0]; · iexists X₀; iexact H0
        iapply (world_reached m K (c, some (true, opp j, 0))); iexact HW
      · isplitl [H1]; · iexists X₁; iexact H1
        iapply (world_reached m K (c, some (true, opp j, 1))); iexact HW
    · iapply (world_reached m K (fwd c j, none)); iexact HW
  iintro HO
  iapply Hk
  iexists W; iexact HO

/-- The wait for all three other devices: their slots which this device sends into are its. -/
theorem step_barrier (K : Dev nD × CIx → ℕ) {k : PUnit → Prog (TpuEff nD τ sig (Elt F) Λ₀ .tc) α} :
    iprop(world m K ∗ cred (tallyAt (barCell c) () 3) ∗ owing c 6 ∗ atPos ER (barCell c) 0 ∅ 0)
      ⊢ iprop((iprop(owing c 6 ∗ atPos ER (barCell c) 1 ∅ 0 ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  unfold owing
  iintro ⟨#HW, Hc, ⟨%W, HO⟩, Hat⟩ Hk
  iapply (Rounds.wp_wait_rest_token 𝒱₀ ER (sched m) (c : Thread nD τ) none (κ := K (c, none))
      (wpE_semWait_eq 𝒱₀ (c : Thread nD τ) none Set.univ) (Set.mem_univ _) () (O := owed c 6) (W := W) (R := 0) (m := 0) (T := ∅)
      (by rw [expect_bar])) $$ [Hc HO Hat]
  · isplitr; · iapply (world_inv m K (c, none)); iexact HW
    isplitl [Hc]; · iexact Hc
    isplitl [HO]; · iexact HO
    isplitr; · iapply (mayWait_bar c); iapply (world_lev m K); iexact HW
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-! ## The transfers -/

/-- A block sent to the device `j + 1` places on, from this device's slot `(j, k)` into that device's. -/
theorem step_send (K : Dev nD × CIx → ℕ) (j : Fin 3) (k₀ : Fin 2) {n : Dev nD} (hn : n = fwd c j) {o : ℕ} (ho : dueCell c o = recvCell (fwd c j) j k₀) (ha : dueAmt o = N)
    {hr hr' : ∀ a, (r4 j k₀).stride a = 1} {hsq hsq' : (r4 j k₀).shape.Squeezes S512x1024}
    {hsc : ((rM : Memref sig (Dev.tc n : Thread nD τ).2.kind .vmem S3x2x512x1024 .fp8e5m2).slice (r4 j k₀) hr' |>.squeeze S512x1024 hsq').view.ref.isScScratch = false}
    {hsrc : ((sM : Memref sig .tc .vmem S3x2x512x1024 .fp8e5m2).slice (r4 j k₀) hr |>.squeeze S512x1024 hsq).view.WordExact}
    {hdst : ((rM : Memref sig .tc .vmem S3x2x512x1024 .fp8e5m2).slice (r4 j k₀) hr' |>.squeeze S512x1024 hsq').view.WordExact}
    {hsem : DmaTarget.Typed .vmem (.dma (recvS j k₀)) (.remote (Dev.tc n : Thread nD τ) ((rM : Memref sig .tc .vmem S3x2x512x1024 .fp8e5m2).slice (r4 j k₀) hr' |>.squeeze S512x1024 hsq') (.dma (sendS j k₀)) hsc)}
    {k : PUnit → Prog (TpuEff nD τ sig (Elt F) Λ₀ .tc) α} {X₀ : S1x1x512x1024.Idx → Elt F .fp8e5m2} :
    iprop(world m K ∗ held c (sV j k₀) (sent m c j k₀) ∗ held (fwd c j) (rV j k₀) X₀ ∗ owing c (o + 1)
        ∗ dutyTok ER (sendCell c j k₀) 0 0 ∗ dutyTok ER (recvCell (fwd c j) j k₀) 0 0)
      ⊢ iprop((iprop(cred (tallyAt (sendCell c j k₀) () N) ∗ owing c o) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((sM : Memref sig .tc .vmem S3x2x512x1024 .fp8e5m2).slice (r4 j k₀) hr |>.squeeze S512x1024 hsq)
                (.remote (Dev.tc n : Thread nD τ) ((rM : Memref sig .tc .vmem S3x2x512x1024 .fp8e5m2).slice (r4 j k₀) hr' |>.squeeze S512x1024 hsq') (.dma (sendS j k₀)) hsc)
                (.dma (recvS j k₀)) hsrc hdst hsem) k) Q) := by
  subst hn
  unfold owing
  iintro ⟨#HW, Hs, Hd, ⟨%W, HO⟩, Ht, Ht'⟩ Hk
  ihave Hs' := (held_squeezed c (sM : Memref sig .tc .vmem S3x2x512x1024 .fp8e5m2) (r4 j k₀) hr hsq _) $$ Hs
  icases Hs' with ⟨%f, %hf, Hs⟩
  ihave Hd' := (held_squeezed (fwd c j) (rM : Memref sig .tc .vmem S3x2x512x1024 .fp8e5m2) (r4 j k₀) hr' hsq' _) $$ Hd
  icases Hd' with ⟨%g, -, Hd⟩
  iapply (Rounds.wp_send_pointsTo 𝒱₀ ER (sched m) (c : Thread nD τ) none (κ₁ := K (c, some (false, j, k₀))) (κ₂ := K (fwd c j, some (true, j, k₀)))
    (r₁ := 0) (r₂ := 0) (d₁ := 0) (d₂ := 0) (fs := f) (fd := g) (q := fullShare)
    (by rw [duties_send]; exact Finset.mem_singleton_self _) (by rw [duties_recv]; exact Finset.mem_singleton_self _)
    () () N rfl (amount_dma m c _ 0) (amount_dma m (fwd c j) _ 0) (owed c o)
    (by show owed c o + tallyAt (dueCell c o) () (dueAmt o) = _; rw [ho, ha]) (W := W)
    (by
      rw [payload_send]; unfold sendPay
      iintro H
      iexists _
      iapply (squeezed_held_any c (sM : Memref sig .tc .vmem S3x2x512x1024 .fp8e5m2) (r4 j k₀) hr hsq f) $$ H)
    (by
      rw [payload_recv]; unfold recvPay
      rw [fwd_opp]
      refine (squeezed_held (fwd c j) (rM : Memref sig .tc .vmem S3x2x512x1024 .fp8e5m2) (r4 j k₀) hr' hsq' g _).trans (held_congr (fwd c j) _ ?_)
      funext x
      show (((sM : Memref sig .tc .vmem S3x2x512x1024 .fp8e5m2).slice (r4 j k₀) hr).squeeze S512x1024 hsq).view.read (Elt F) f ((Shape.reshapeEquiv hsq'.numel_eq).symm x) = _
      rw [hf]
      show sent m c j k₀ (Shape.reshapeEquiv hsq.numel_eq ((Shape.reshapeEquiv hsq'.numel_eq).symm x)) = _
      rw [Equiv.apply_symm_apply])) $$ [Hs Hd HO Ht Ht']
  · isplitr; · iapply (world_inv m K (c, some (false, j, k₀))); iexact HW
    isplitr; · iapply (world_inv m K (fwd c j, some (true, j, k₀))); iexact HW
    isplitl [Hs]; · iexact Hs
    isplitl [Hd]; · iexact Hd
    isplitl [HO]; · iexact HO
    isplitl [Ht]; · iexact Ht
    isplitr; · iapply (world_reached m K (c, some (false, j, k₀))); iexact HW
    isplitl [Ht']; · iexact Ht'
    iapply (world_reached m K (fwd c j, some (true, j, k₀))); iexact HW
  iintro ⟨Hc, HO⟩
  iapply Hk
  isplitl [Hc]; · iexact Hc
  iexists W; iexact HO

/-- The wait for a block to arrive: its slot holds what was sent. -/
theorem step_recv (K : Dev nD × CIx → ℕ) (j : Fin 3) (k₀ : Fin 2) {sp' sp'' : Space} {s₁ s₂ : Shape} {e₁ e₂ : EltTy}
    {srcw : Memref sig .tc sp' s₁ e₁} {dstw : Memref sig .tc sp'' s₂ e₂} {hsrc : srcw.view.WordExact} {hdst : dstw.view.WordExact}
    {k : PUnit → Prog (TpuEff nD τ sig (Elt F) Λ₀ .tc) α} (hn : dstw.view.dmaCredit = N) :
    iprop(world m K ∗ cred (tallyAt (recvCell c j k₀) () N) ∗ owing c 0 ∗ atPos ER (recvCell c j k₀) 0 ∅ 0)
      ⊢ iprop((iprop(owing c 0 ∗ atPos ER (recvCell c j k₀) 1 ∅ 0 ∗ held c (rV j k₀) (sent m (fwd c (opp j)) j k₀))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS j k₀) srcw dstw hsrc hdst) k) Q) := by
  unfold owing
  iintro ⟨#HW, Hc, ⟨%W, HO⟩, Hat⟩ Hk
  iapply (Rounds.wp_wait_rest_token 𝒱₀ ER (sched m) (c : Thread nD τ) none (κ := K (c, some (true, j, k₀)))
      (wpE_waitDma2_eq 𝒱₀ (c : Thread nD τ) none Set.univ) (Set.mem_univ _) () (O := owed c 0) (W := W) (R := 0) (m := 0) (T := ∅)
      (by rw [Nat.zero_add, expect_recv]; exact hn)) $$ [Hc HO Hat]
  · isplitr; · iapply (world_inv m K (c, some (true, j, k₀))); iexact HW
    isplitl [Hc]; · rw [hn]; iexact Hc
    isplitl [HO]; · iexact HO
    isplitr; · unfold owed; rw [MayWait_zero]; iempintro
    iexact Hat
  iintro ⟨HO, Hat, -, Hpay⟩
  ihave Hp := (Entails.of_eq (rest_recv m c j k₀)) $$ Hpay
  iapply Hk
  isplitl [HO]; · iexists _; iexact HO
  isplitl [Hat]; · iexact Hat
  unfold recvPay; iexact Hp

/-- The wait for a block to have left: its slot is the sender's again. -/
theorem step_sent (K : Dev nD × CIx → ℕ) (j : Fin 3) (k₀ : Fin 2) {sp' sp'' : Space} {s₁ s₂ : Shape} {e₁ e₂ : EltTy}
    {srcw : Memref sig .tc sp' s₁ e₁} {dstw : Memref sig .tc sp'' s₂ e₂} {hsrc : srcw.view.WordExact} {hdst : dstw.view.WordExact}
    {k : PUnit → Prog (TpuEff nD τ sig (Elt F) Λ₀ .tc) α} (hn : dstw.view.dmaCredit = N) :
    iprop(world m K ∗ cred (tallyAt (sendCell c j k₀) () N) ∗ owing c 0 ∗ atPos ER (sendCell c j k₀) 0 ∅ 0)
      ⊢ iprop((iprop(owing c 0 ∗ atPos ER (sendCell c j k₀) 1 ∅ 0 ∗ sendPay c j k₀)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS j k₀) srcw dstw hsrc hdst) k) Q) := by
  unfold owing
  iintro ⟨#HW, Hc, ⟨%W, HO⟩, Hat⟩ Hk
  iapply (Rounds.wp_wait_rest_token 𝒱₀ ER (sched m) (c : Thread nD τ) none (κ := K (c, some (false, j, k₀)))
      (wpE_waitDma2_eq 𝒱₀ (c : Thread nD τ) none Set.univ) (Set.mem_univ _) () (O := owed c 0) (W := W) (R := 0) (m := 0) (T := ∅)
      (by rw [Nat.zero_add, expect_send]; exact hn)) $$ [Hc HO Hat]
  · isplitr; · iapply (world_inv m K (c, some (false, j, k₀))); iexact HW
    isplitl [Hc]; · rw [hn]; iexact Hc
    isplitl [HO]; · iexact HO
    isplitr; · unfold owed; rw [MayWait_zero]; iempintro
    iexact Hat
  iintro ⟨HO, Hat, -, Hpay⟩
  ihave Hp := (Entails.of_eq (rest_send m c j k₀)) $$ Hpay
  iapply Hk
  isplitl [HO]; · iexists _; iexact HO
  isplitl [Hat]; · iexact Hat
  iexact Hp

/-- A cell past its round closes: its counter, at zero, is the device's own again. -/
theorem step_close (K : Dev nD × CIx → ℕ) (x : CIx) :
    iprop(world m K ∗ atPos ER (kcell (c, x)) 1 ∅ 0) ⊢ |={Set.univ}=> (semVal (kcell (c, x)) 0 : sProp 𝕄) := by
  iintro ⟨#HW, Hat⟩
  imod (Rounds.cell_close ER (sched m) (Set.mem_univ (K (c, x))) (fun h => h) (R := 1) (duties_later m (kcell (c, x)))) $$ [Hat] with Hz
  · isplitr; · iapply (world_inv m K (c, x)); iexact HW
    iexact Hat
  imodintro
  iexact Hz

end Cert.Exchange

end
-- ==== Proof.Fetch.lean ====
/- The slots, contents and fetches of the body, and the values its statements compute: each named once. -/
module

public import proofs.«01_k».proof.Proof.Steps
public import Idealize.ShloMosaic.Lib.ValueIdxCore

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Names for slots and what passes through them -/

abbrev sxM : Memref sig .tc .smem S1 .f32 := Memref.whole cc0_stg0_0
abbrev swM : Memref sig .tc .smem S1 .f32 := Memref.whole cc0_stg1_0
abbrev r1 : Rect S1 := Rect.unit (s := S1) ![0] S1.size inb_S1_S1_0
abbrev xtV (s : Fin 2) : View sig .tc .vmem S1x512x1024 .f32 := (xtM : Memref sig .tc .vmem S2x512x1024 .f32).access (r3x s)
abbrev wtV (s : Fin 2) : View sig .tc .vmem S1x1024x2048 .f32 := (wtM : Memref sig .tc .vmem S2x1024x2048 .f32).access (r3w s)
abbrev oV (s : Fin 2) : View sig .tc .vmem S1x512x1024 .fp8e5m2 := (oM : Memref sig .tc .vmem S2x512x1024 .fp8e5m2).access (r3x s)
abbrev outV (k : Fin 2) : View sig .tc .vmem S512x2048 .f32 := (outM : Memref sig .tc .vmem S1024x2048 .f32).access (ro k)

/-- The rows of `x` a fetch reads, and the rows of `w`. -/
abbrev xSrc (c : Dev nD) (h : Fin 4) (k : Fin 2) : View sig .tc .hbm S512x1024 .f32 :=
  (xM : Memref sig .tc .hbm S4096x1024 .f32).access (Rect.unit (s := S4096x1024) (k0_off1 c (BitVec.ofNat 32 h.val) (BitVec.ofNat 32 (512 * k.val))) S512x1024.size (k0_off1_inb c h k))
abbrev wSrc (c : Dev nD) (h : Fin 4) : View sig .tc .hbm S1024x2048 .f32 :=
  (wM : Memref sig .tc .hbm S4096x2048 .f32).access (Rect.unit (s := S4096x2048) (k0_off2 c (BitVec.ofNat 32 h.val)) S1024x2048.size (k0_off2_inb c h))

/-- The credit of one fetched block of `x`, and of `w`. -/
abbrev NX : ℕ := ((xtV 0).reshape S512x1024 sqx).dmaCredit
abbrev NW : ℕ := ((wtV 0).reshape S1024x2048 sqw).dmaCredit
theorem NX_pos : 0 < NX := View.dmaCredit_pos _ (by decide)
theorem NW_pos : 0 < NW := View.dmaCredit_pos _ (by decide)

/-- The arrays at one of the two shares a device's two slots fetch at. -/
def xAt (c : Dev nD) (π : PosShare TreeShare) : sProp 𝕄 := iprop(((c : Thread nD τ).loc main_arg0) ↦{π} m ((c : Thread nD τ).loc main_arg0))
def wAt (c : Dev nD) (π : PosShare TreeShare) : sProp 𝕄 := iprop(((c : Thread nD τ).loc main_arg1) ↦{π} m ((c : Thread nD τ).loc main_arg1))

/-- The fetch of hop `h`, half `k` under way into slot `s`; -/
abbrev xFetching (c : Dev nD) (s : Fin 2) (π : PosShare TreeShare) (h : Fin 4) (k : Fin 2) : sProp 𝕄 :=
  fetching c (xS s) NX π (xSrc c h k) (m ((c : Thread nD τ).loc main_arg0)) (xtV s) (inSlot sqx (xRows m c h k))
/-- of the weights of hop `h` into slot `s`. -/
abbrev wFetching (c : Dev nD) (s : Fin 2) (π : PosShare TreeShare) (h : Fin 4) : sProp 𝕄 :=
  fetching c (wS s) NW π (wSrc c h) (m ((c : Thread nD τ).loc main_arg1)) (wtV s) (inSlot sqw (wRows m c h))

variable {α : Type} {Q : α → sProp (MT nD τ sig Unit (Elt F) ℕ UU ℕ)} (c : Dev nD)

/-- The halves of a share, one for each of a device's two slots. -/
abbrev πL : PosShare TreeShare := fullShare.left
abbrev πR : PosShare TreeShare := fullShare.right

/-! ## The fetches -/

theorem mayx (s : Fin 2) : ¬ IsRecv (xS s) := by revert s; decide
theorem mayw (s : Fin 2) : ¬ IsRecv (wS s) := by revert s; decide

/-- A block of `x` fetched into slot `s`: begun; -/
theorem step_xfetch (s : Fin 2) (h : Fin 4) (k₀ : Fin 2) {π : PosShare TreeShare} {X : S1x512x1024.Idx → Elt F .f32} {hr : ∀ a, (r3x s).stride a = 1}
    {hsq : (r3x s).shape.Squeezes S512x1024} {hr' : ∀ a, (Rect.unit (s := S4096x1024) (k0_off1 c (BitVec.ofNat 32 h.val) (BitVec.ofNat 32 (512 * k₀.val))) S512x1024.size (k0_off1_inb c h k₀)).stride a = 1}
    {hsrc : ((xM : Memref sig .tc .hbm S4096x1024 .f32).slice (Rect.unit (s := S4096x1024) (k0_off1 c (BitVec.ofNat 32 h.val) (BitVec.ofNat 32 (512 * k₀.val))) S512x1024.size (k0_off1_inb c h k₀)) hr').view.WordExact}
    {hdst : (((xtM : Memref sig .tc .vmem S2x512x1024 .f32).slice (r3x s) hr).squeeze S512x1024 hsq).view.WordExact}
    {hsem : DmaTarget.Typed .hbm (.dma (xS s)) (.here (((xtM : Memref sig .tc .vmem S2x512x1024 .f32).slice (r3x s) hr).squeeze S512x1024 hsq) : DmaTarget nD τ sig (.tc : Proc τ) .vmem S512x1024 .f32)}
    {k : PUnit → Prog (TpuEff nD τ sig (Elt F) Λ₀ .tc) α} :
    iprop(held c (xtV s) X ∗ xAt m c π ∗ semVal ((c : Thread nD τ), .dma (xS s)) 0)
      ⊢ iprop((xFetching m c s π h k₀ -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((xM : Memref sig .tc .hbm S4096x1024 .f32).slice (Rect.unit (s := S4096x1024) (k0_off1 c (BitVec.ofNat 32 h.val) (BitVec.ofNat 32 (512 * k₀.val))) S512x1024.size (k0_off1_inb c h k₀)) hr')
                (.here (((xtM : Memref sig .tc .vmem S2x512x1024 .f32).slice (r3x s) hr).squeeze S512x1024 hsq)) (.dma (xS s)) hsrc hdst hsem) k) Q) := by
  have hn : (((xtM : Memref sig .tc .vmem S2x512x1024 .f32).slice (r3x s) hr).squeeze S512x1024 hsq).view.dmaCredit = NX := rfl
  exact step_fetch c (cs := .vmem) (s' := S512x1024) (S := S2x512x1024) (e := .f32)
    (src := (xM : Memref sig .tc .hbm S4096x1024 .f32).slice (Rect.unit (s := S4096x1024) (k0_off1 c (BitVec.ofNat 32 h.val) (BitVec.ofNat 32 (512 * k₀.val))) S512x1024.size (k0_off1_inb c h k₀)) hr')
    (M := (xtM : Memref sig .tc .vmem S2x512x1024 .f32)) (r := r3x s) (hr := hr) (hsq := hsq) (q := xS s) (π := π) (X := X) (f := m ((c : Thread nD τ).loc main_arg0))
    (hsrc := hsrc) (hdst := hdst) (hsem := hsem) NX hn NX_pos

/-- and awaited. -/
theorem step_xfetched (K : Dev nD × CIx → ℕ) (s : Fin 2) {h : Fin 4} {k₀ : Fin 2} {π : PosShare TreeShare} {o : ℕ} {sp' sp'' : Space} {s₁ s₂ : Shape} {e₁ e₂ : EltTy}
    {srcw : Memref sig .tc sp' s₁ e₁} {dstw : Memref sig .tc sp'' s₂ e₂} {hsrc : srcw.view.WordExact} {hdst : dstw.view.WordExact}
    {k : PUnit → Prog (TpuEff nD τ sig (Elt F) Λ₀ .tc) α} (hn : dstw.view.dmaCredit = NX) :
    iprop(world m K ∗ xFetching m c s π h k₀ ∗ owing c o)
      ⊢ iprop((iprop(held c (xtV s) (inSlot sqx (xRows m c h k₀)) ∗ xAt m c π ∗ semVal ((c : Thread nD τ), .dma (xS s)) 0 ∗ owing (F := F) c o)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (xS s) srcw dstw hsrc hdst) k) Q) :=
  step_fetched m c K (mayx s) hn

/-- A block of `w` fetched into slot `s`: begun; -/
theorem step_wfetch (s : Fin 2) (h : Fin 4) {π : PosShare TreeShare} {X : S1x1024x2048.Idx → Elt F .f32} {hr : ∀ a, (r3w s).stride a = 1}
    {hsq : (r3w s).shape.Squeezes S1024x2048} {hr' : ∀ a, (Rect.unit (s := S4096x2048) (k0_off2 c (BitVec.ofNat 32 h.val)) S1024x2048.size (k0_off2_inb c h)).stride a = 1}
    {hsrc : ((wM : Memref sig .tc .hbm S4096x2048 .f32).slice (Rect.unit (s := S4096x2048) (k0_off2 c (BitVec.ofNat 32 h.val)) S1024x2048.size (k0_off2_inb c h)) hr').view.WordExact}
    {hdst : (((wtM : Memref sig .tc .vmem S2x1024x2048 .f32).slice (r3w s) hr).squeeze S1024x2048 hsq).view.WordExact}
    {hsem : DmaTarget.Typed .hbm (.dma (wS s)) (.here (((wtM : Memref sig .tc .vmem S2x1024x2048 .f32).slice (r3w s) hr).squeeze S1024x2048 hsq) : DmaTarget nD τ sig (.tc : Proc τ) .vmem S1024x2048 .f32)}
    {k : PUnit → Prog (TpuEff nD τ sig (Elt F) Λ₀ .tc) α} :
    iprop(held c (wtV s) X ∗ wAt m c π ∗ semVal ((c : Thread nD τ), .dma (wS s)) 0)
      ⊢ iprop((wFetching m c s π h -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((wM : Memref sig .tc .hbm S4096x2048 .f32).slice (Rect.unit (s := S4096x2048) (k0_off2 c (BitVec.ofNat 32 h.val)) S1024x2048.size (k0_off2_inb c h)) hr')
                (.here (((wtM : Memref sig .tc .vmem S2x1024x2048 .f32).slice (r3w s) hr).squeeze S1024x2048 hsq)) (.dma (wS s)) hsrc hdst hsem) k) Q) := by
  have hn : (((wtM : Memref sig .tc .vmem S2x1024x2048 .f32).slice (r3w s) hr).squeeze S1024x2048 hsq).view.dmaCredit = NW := rfl
  exact step_fetch c (cs := .vmem) (s' := S1024x2048) (S := S2x1024x2048) (e := .f32)
    (src := (wM : Memref sig .tc .hbm S4096x2048 .f32).slice (Rect.unit (s := S4096x2048) (k0_off2 c (BitVec.ofNat 32 h.val)) S1024x2048.size (k0_off2_inb c h)) hr')
    (M := (wtM : Memref sig .tc .vmem S2x1024x2048 .f32)) (r := r3w s) (hr := hr) (hsq := hsq) (q := wS s) (π := π) (X := X) (f := m ((c : Thread nD τ).loc main_arg1))
    (hsrc := hsrc) (hdst := hdst) (hsem := hsem) NW hn NW_pos

/-- and awaited. -/
theorem step_wfetched (K : Dev nD × CIx → ℕ) (s : Fin 2) {h : Fin 4} {π : PosShare TreeShare} {o : ℕ} {sp' sp'' : Space} {s₁ s₂ : Shape} {e₁ e₂ : EltTy}
    {srcw : Memref sig .tc sp' s₁ e₁} {dstw : Memref sig .tc sp'' s₂ e₂} {hsrc : srcw.view.WordExact} {hdst : dstw.view.WordExact}
    {k : PUnit → Prog (TpuEff nD τ sig (Elt F) Λ₀ .tc) α} (hn : dstw.view.dmaCredit = NW) :
    iprop(world m K ∗ wFetching m c s π h ∗ owing c o)
      ⊢ iprop((iprop(held c (wtV s) (inSlot sqw (wRows m c h)) ∗ wAt m c π ∗ semVal ((c : Thread nD τ), .dma (wS s)) 0 ∗ owing (F := F) c o)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (wS s) srcw dstw hsrc hdst) k) Q) :=
  step_fetched m c K (mayw s) hn

/-! ## The kernel's values: one rounding, one product, one accumulation, however often the body writes them -/

theorem pay3_eq (a : Vec F S1x512x1024 .f32) : k0_pay3 (k0_pay2 a) = k0_pay4 a := rfl
theorem pay5_eq (a : Vec F S1x512x1024 .f32) : k0_pay5 a = k0_pay4 a := rfl
theorem pay6_eq (a : Vec F S1x512x1024 .f32) : k0_pay6 a = k0_pay4 a := rfl
theorem pay7_eq (a : Vec F S1x512x1024 .f32) : k0_pay7 a = k0_pay4 a := rfl
theorem pay8_eq (a : Vec F S1x512x1024 .f32) : k0_pay8 a = k0_pay4 a := rfl
theorem pay10_eq (a : Vec F S1x512x1024 .f32) : k0_pay10 a = k0_pay9 a := rfl
theorem pay14_eq (a : Vec F S1x1024x2048 .f32) : k0_pay14 a = k0_pay11 a := rfl
theorem pay17_eq (a : Vec F S1x1024x2048 .f32) : k0_pay17 a = k0_pay11 a := rfl
theorem pay20_eq (a : Vec F S1x1024x2048 .f32) : k0_pay20 a = k0_pay11 a := rfl
theorem pay12_eq (a : Vec F S1x1024x2048 .f32) (b : Vec F S1x512x1024 .fp8e5m2) : k0_pay12 a b = k0_pay13 (k0_pay11 a) b := rfl
theorem pay16_eq (w : FVec F S1024x2048 .fp8e5m2) (a : Vec F S512x2048 .f32) (b : Vec F S1x1x512x1024 .fp8e5m2) : k0_pay16 w a b = k0_pay15 w a b := rfl
theorem pay18_eq (w : Vec F S1x1024x2048 .f32) (a : Vec F S512x2048 .f32) (b : Vec F S1x1x512x1024 .fp8e5m2) : k0_pay18 w a b = k0_pay15 (k0_pay11 w) a b := rfl
theorem pay19_eq (w : FVec F S1024x2048 .fp8e5m2) (a : Vec F S512x2048 .f32) (b : Vec F S1x1x512x1024 .fp8e5m2) : k0_pay19 w a b = k0_pay15 w a b := rfl
theorem pay21_eq (w : FVec F S1024x2048 .fp8e5m2) (a : Vec F S512x2048 .f32) (b : Vec F S1x1x512x1024 .fp8e5m2) : k0_pay21 w a b = k0_pay15 w a b := rfl
theorem pay22_eq (w : FVec F S1024x2048 .fp8e5m2) (a : Vec F S512x2048 .f32) (b : Vec F S1x1x512x1024 .fp8e5m2) : k0_pay22 w a b = k0_pay15 w a b := rfl

/-- The device's own rows, half `k`, rounded; -/
def ownRows (c : Dev nD) (k : Fin 2) : S1x512x1024.Idx → Elt F .fp8e5m2 := k0_pay9 (inSlot sqx (xRows m c 0 k))
/-- the weights of hop `h`, rounded; -/
def weights (c : Dev nD) (h : Fin 4) : FVec F S1024x2048 .fp8e5m2 := k0_pay11 (inSlot sqw (wRows m c h))
/-- an accumulated half with the product of the block received at hop `j` added; -/
def addHop (c : Dev nD) (k : Fin 2) (j : Fin 3) (A : S512x2048.Idx → Elt F .f32) : S512x2048.Idx → Elt F .f32 :=
  k0_pay15 (weights m c j.succ) A (sent m (fwd c (opp j)) j k)
/-- half `k` of the rows before scaling; -/
def rowsAcc (c : Dev nD) (k : Fin 2) : S512x2048.Idx → Elt F .f32 :=
  addHop m c k 2 (addHop m c k 1 (addHop m c k 0 (k0_pay13 (weights m c 0) (ownRows m c k))))

/-! ## Families over hops and halves, written out -/

abbrev two (Φ : Fin 2 → sProp 𝕄) : sProp 𝕄 := iprop(Φ 0 ∗ Φ 1)
abbrev three (Φ : Fin 3 → sProp 𝕄) : sProp 𝕄 := iprop(Φ 0 ∗ Φ 1 ∗ Φ 2)
abbrev six (Φ : Fin 3 → Fin 2 → sProp 𝕄) : sProp 𝕄 := iprop(Φ 0 0 ∗ Φ 0 1 ∗ Φ 1 0 ∗ Φ 1 1 ∗ Φ 2 0 ∗ Φ 2 1)

/-- The tokens a device starts from: to pay with, to wait with, and the credit its waits spend. -/
def tokens (c : Dev nD) : sProp 𝕄 :=
  iprop(three (fun j => dutyTok ER (barCell (fwd c j)) 0 (opp j))
    ∗ six (fun j k => dutyTok ER (sendCell c j k) 0 0) ∗ six (fun j k => dutyTok ER (recvCell (fwd c j) j k) 0 0)
    ∗ atPos ER (barCell c) 0 ∅ 0 ∗ six (fun j k => atPos ER (sendCell c j k) 0 ∅ 0) ∗ six (fun j k => atPos ER (recvCell c j k) 0 ∅ 0)
    ∗ cred (tallyAt (barCell c) () 3) ∗ six (fun j k => cred (tallyAt (recvCell c j k) () N)))

/-- A device's scratch slots, whatever they hold. -/
def scratch (c : Dev nD) : sProp 𝕄 :=
  iprop(six (fun j k => iprop(∃ X, held c (sV j k) X)) ∗ six (fun j k => iprop(∃ X, held c (rV j k) X))
    ∗ two (fun k => iprop(∃ X, held c (oV k) X)) ∗ two (fun s => iprop(∃ X, held c (xtV s) X)) ∗ two (fun s => iprop(∃ X, held c (wtV s) X)))

/-- The semaphores of its fetches, at zero; -/
def fetchSems (c : Dev nD) : sProp 𝕄 :=
  iprop(two (fun s => semVal ((c : Thread nD τ), .dma (xS s)) 0) ∗ two (fun s => semVal ((c : Thread nD τ), .dma (wS s)) 0))
/-- of its transfers and its barrier, at zero. -/
def hopSems (c : Dev nD) : sProp 𝕄 :=
  iprop(semVal (barCell c) 0 ∗ six (fun j k => semVal (sendCell c j k) 0) ∗ six (fun j k => semVal (recvCell c j k) 0))
/-- Its arrays, at the two shares of each. -/
def arrays (c : Dev nD) : sProp 𝕄 := iprop((xAt m c πL ∗ xAt m c πR) ∗ (wAt m c πL ∗ wAt m c πR))

end Cert.Exchange

end
-- ==== Proof.Body.lean ====
/- The kernel's body on one device `c`, run once for all four: one rule of `Steps` or `Fetch` for each
   statement, in program order, from what the device is given to its block of the result. -/
module

public import proofs.«01_k».proof.Proof.Fetch

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (c : Dev nD)

/-! ## The devices addressed -/

theorem dev1_eq (c : Dev nD) : (⟨k0_dev1 c, k0_dev1_lt c⟩ : Dev nD) = fwd c 0 := Fin.ext (k0_dev1_eq c)
theorem dev2_eq (c : Dev nD) : (⟨k0_dev2 c, k0_dev2_lt c⟩ : Dev nD) = fwd c 1 := Fin.ext (k0_dev2_eq c)
theorem dev3_eq (c : Dev nD) : (⟨k0_dev3 c, k0_dev3_lt c⟩ : Dev nD) = fwd c 2 := Fin.ext (k0_dev3_eq c)
theorem dev4_eq (c : Dev nD) : (⟨k0_dev4 c, k0_dev4_lt c⟩ : Dev nD) = fwd c 0 := Fin.ext (k0_dev4_eq c)
theorem dev5_eq (c : Dev nD) : (⟨k0_dev5 c, k0_dev5_lt c⟩ : Dev nD) = fwd c 0 := Fin.ext (k0_dev5_eq c)
theorem dev6_eq (c : Dev nD) : (⟨k0_dev6 c, k0_dev6_lt c⟩ : Dev nD) = fwd c 1 := Fin.ext (k0_dev6_eq c)
theorem dev7_eq (c : Dev nD) : (⟨k0_dev7 c, k0_dev7_lt c⟩ : Dev nD) = fwd c 1 := Fin.ext (k0_dev7_eq c)
theorem dev8_eq (c : Dev nD) : (⟨k0_dev8 c, k0_dev8_lt c⟩ : Dev nD) = fwd c 2 := Fin.ext (k0_dev8_eq c)
theorem dev9_eq (c : Dev nD) : (⟨k0_dev9 c, k0_dev9_lt c⟩ : Dev nD) = fwd c 2 := Fin.ext (k0_dev9_eq c)

/-! ## The result's two halves joined -/

abbrev rAll : Rect S1024x2048 := Rect.unit (s := S1024x2048) ![0, 0] S1024x2048.size inb_S1024x2048_S1024x2048_0_0
abbrev outAll : View sig .tc .vmem S1024x2048 .f32 := (outM : Memref sig .tc .vmem S1024x2048 .f32).access rAll

/-- Half `A` of the rows above half `B`. -/
def stack (A B : S512x2048.Idx → Elt F .f32) : S1024x2048.Idx → Elt F .f32 := fun i =>
  if h : (i 0).val < 512 then A (ValueIdx.ix2 ⟨(i 0).val, h⟩ (i 1))
  else B (ValueIdx.ix2 ⟨(i 0).val - 512, by have : (i 0).val < 1024 := (i 0).isLt; omega⟩ (i 1))

theorem mem_half (i : S1024x2048.Idx) (k : Fin 2) : i ∈ (ro k).set ↔ (i 0).val / 512 = k.val := by
  have h0 : (i 0).val < 1024 := (i 0).isLt
  have h1 : (i 1).val < 2048 := (i 1).isLt
  have hk := k.isLt
  rw [Rect.mem_set_unit]
  constructor
  · intro h
    have := h 0
    change 512 * k.val ≤ (i 0).val ∧ (i 0).val < 512 * k.val + 512 at this
    omega
  · intro h a
    match a with
    | ⟨0, _⟩ => show 512 * k.val ≤ (i 0).val ∧ (i 0).val < 512 * k.val + 512; omega
    | ⟨1, _⟩ => show 0 ≤ (i 1).val ∧ (i 1).val < 0 + 2048; omega

theorem rAll_emb (i : S1024x2048.Idx) : rAll.emb i = i := by
  funext a; apply Fin.ext
  match a with
  | ⟨0, _⟩ => show 0 + 1 * (i 0).val = (i 0).val; omega
  | ⟨1, _⟩ => show 0 + 1 * (i 1).val = (i 1).val; omega

omit [FloatOps F] in
/-- The two halves held are the whole held, one above the other. -/
theorem held_stack {A B : S512x2048.Idx → Elt F .f32} :
    (iprop(held c (outV 0) A ∗ held c (outV 1) B) : sProp 𝕄) ⊢ held c outAll (stack A B) := by
  have s0 : (outV 0).set = (ro 0).set := View.set_slice_whole _ _
  have s1 : (outV 1).set = (ro 1).set := View.set_slice_whole _ _
  have sA : outAll.set = Finset.univ := (View.set_slice_whole _ _).trans (Finset.eq_univ_of_forall fun i => by
    have h0 : (i 0).val < 1024 := (i 0).isLt
    have h1 : (i 1).val < 2048 := (i 1).isLt
    refine Rect.mem_set_unit.2 fun a => ?_
    match a with
    | ⟨0, _⟩ => show 0 ≤ (i 0).val ∧ (i 0).val < 0 + 1024; omega
    | ⟨1, _⟩ => show 0 ≤ (i 1).val ∧ (i 1).val < 0 + 2048; omega)
  have hd : Disjoint (outV 0).set (outV 1).set := by
    rw [s0, s1, Finset.disjoint_left]
    intro i h0 h1
    have := ((mem_half i 0).1 h0).symm.trans ((mem_half i 1).1 h1)
    exact absurd this (by decide)
  have hu : (outV 0).set ∪ (outV 1).set = outAll.set := by
    rw [sA, s0, s1]
    refine Finset.eq_univ_of_forall fun i => Finset.mem_union.2 ?_
    have h : (i 0).val < 1024 := (i 0).isLt
    by_cases hi : (i 0).val < 512
    · exact Or.inl ((mem_half i 0).2 (by show (i 0).val / 512 = 0; omega))
    · exact Or.inr ((mem_half i 1).2 (by show (i 0).val / 512 = 1; omega))
  unfold held
  iintro ⟨⟨%f, %hf, Hf⟩, ⟨%g, %hg, Hg⟩⟩
  ihave H := (pointsTo_join (ℓ := (outV 0).loc (c : Thread nD τ)) (I := (outV 0).set) (J := (outV 1).set) (q := fullShare) (f := f) (g := g) hd) $$ [Hf Hg]
  · isplitl [Hf]; · iexact Hf
    iexact Hg
  iexists ((outV 1).set.piecewise g f)
  isplitr
  · ipureintro
    subst hf hg
    funext i
    show ((outV 1).set.piecewise g f) (rAll.emb i) = _
    rw [rAll_emb]
    unfold stack
    have hm : i ∈ (outV 1).set ↔ (i 0).val / 512 = 1 := by rw [s1]; exact mem_half i 1
    have h : (i 0).val < 1024 := (i 0).isLt
    split
    next hi =>
      rw [Finset.piecewise_eq_of_notMem _ _ _ (fun hc => by have := hm.1 hc; omega)]
      show f i = f ((ro 0).emb _)
      congr 1; funext a; apply Fin.ext
      match a with
      | ⟨0, _⟩ => show (i 0).val = 512 * 0 + 1 * (i 0).val; omega
      | ⟨1, _⟩ => show (i 1).val = 0 + 1 * (i 1).val; omega
    next hi =>
      rw [Finset.piecewise_eq_of_mem _ _ _ (hm.2 (by omega))]
      show g i = g ((ro 1).emb _)
      congr 1; funext a; apply Fin.ext
      match a with
      | ⟨0, _⟩ => show (i 0).val = 512 * 1 + 1 * ((i 0).val - 512); omega
      | ⟨1, _⟩ => show (i 1).val = 0 + 1 * (i 1).val; omega
  · rw [← hu]; iexact H

/-- The scale both factors make. -/
def scale (sx sw : S1.Idx → Elt F .f32) : F .f32 := k0_pay1 (sx (Shape.Idx.first (by decide))) (sw (Shape.Idx.first (by decide)))
/-- What device `c` leaves in its block of the result. -/
def outAt (sx sw : S1.Idx → Elt F .f32) : S1024x2048.Idx → Elt F .f32 := k0_pay23 (scale sx sw) (stack (rowsAcc m c 0) (rowsAcc m c 1))

/-! ## The body -/

def bodyPre (K : Dev nD × CIx → ℕ) (sx sw : S1.Idx → Elt F .f32) : sProp 𝕄 :=
  iprop(world m K ∗ tokens c ∗ scratch c ∗ fetchSems c ∗ arrays m c ∗ owing c 9
    ∗ held c ((sxM : Memref sig .tc .smem S1 .f32).access r1) sx ∗ held c ((swM : Memref sig .tc .smem S1 .f32).access r1) sw
    ∗ two (fun k => iprop(∃ X, held c (outV k) X)))
def bodyPost (sx sw : S1.Idx → Elt F .f32) : sProp 𝕄 :=
  iprop(scratch c ∗ fetchSems c ∗ hopSems c ∗ arrays m c ∗ owing c 0
    ∗ held c ((sxM : Memref sig .tc .smem S1 .f32).access r1) sx ∗ held c ((swM : Memref sig .tc .smem S1 .f32).access r1) sw
    ∗ held c outAll (outAt m c sx sw))

set_option maxHeartbeats 2000000 in
/-- The body runs from `bodyPre` to `bodyPost`. -/
theorem sound_body (K : Dev nD × CIx → ℕ) (sx sw : S1.Idx → Elt F .f32) (Kt : PUnit → sProp 𝕄) :
    iprop(bodyPre m c K sx sw ∗ (bodyPost m c sx sw -∗ Kt ⟨⟩))
      ⊢ wp frame (wpE (defs₀ (F := F)) 𝒱₀ (c : Thread nD τ) none) Set.univ
          (cc0_body xM (Memref.isWhole_whole _) wM (Memref.isWhole_whole _) sxM (Memref.isWhole_whole _) swM (Memref.isWhole_whole _) outM (Memref.isWhole_whole _)
            sM (Memref.isWhole_whole _) rM (Memref.isWhole_whole _) oM (Memref.isWhole_whole _) xtM (Memref.isWhole_whole _) wtM (Memref.isWhole_whole _)
            cc0_scratch5 cc0_scratch6 cc0_scratch7 cc0_scratch8) Kt := by
  simp only [cc0_body_eq_skeleton]; unfold cc0_body_skel
  unfold bodyPre tokens scratch fetchSems arrays
  simp only [Prog.lift, Prog.bind_op, Prog.bind_ret, Prog.pure_eq_ret]
  iintro ⟨⟨#HW, ⟨⟨Hb0, Hb1, Hb2⟩, ⟨Hs00, Hs01, Hs10, Hs11, Hs20, Hs21⟩, ⟨Hd00, Hd01, Hd10, Hd11, Hd20, Hd21⟩, HaB,
      ⟨HaS00, HaS01, HaS10, HaS11, HaS20, HaS21⟩, ⟨HaR00, HaR01, HaR10, HaR11, HaR20, HaR21⟩, HcB, ⟨Hc00, Hc01, Hc10, Hc11, Hc20, Hc21⟩⟩,
    ⟨⟨⟨%u1, Hq00⟩, ⟨%u2, Hq01⟩, ⟨%u3, Hq10⟩, ⟨%u4, Hq11⟩, ⟨%u5, Hq20⟩, ⟨%u6, Hq21⟩⟩,
      ⟨⟨%t1, Hr00⟩, ⟨%t2, Hr01⟩, ⟨%t3, Hr10⟩, ⟨%t4, Hr11⟩, ⟨%t5, Hr20⟩, ⟨%t6, Hr21⟩⟩,
      ⟨⟨%o1, Ho0⟩, ⟨%o2, Ho1⟩⟩, ⟨⟨%x1, Ht0⟩, ⟨%x2, Ht1⟩⟩, ⟨⟨%w1, Hg0⟩, ⟨%w2, Hg1⟩⟩⟩,
    ⟨⟨Hv0, Hv1⟩, ⟨Hz0, Hz1⟩⟩, ⟨⟨Hx0, Hx1⟩, ⟨Hw0, Hw1⟩⟩, HO, Hsx, Hsw, ⟨⟨%y1, Hy0⟩, ⟨%y2, Hy1⟩⟩⟩, Hk⟩
  -- part 1
  rw [k0_part1_eq_skeleton]; unfold k0_part1_skel
  simp only [semSignalWord, semWaitWord, smemLoad, smemLoadElt, Prog.lift, Prog.bind_op, Prog.bind_ret, Prog.pure_eq_ret, wp_deviceId, pay3_eq, pay5_eq, pay6_eq, pay7_eq, pay8_eq, pay10_eq, pay12_eq, pay14_eq, pay16_eq, pay17_eq, pay18_eq, pay19_eq, pay20_eq, pay21_eq, pay22_eq]
  iapply (step_load c) $$ Hsx; iintro Hsx
  iapply (step_load c) $$ Hsw; iintro Hsw
  iapply (step_signal m c K 0 (o := 8) (dev1_eq c) rfl rfl) $$ [HO Hb0 Hr20 Hr21]
  · isplitr; · iexact HW
    isplitl [HO]; · iexact HO
    isplitl [Hb0]; · iexact Hb0
    isplitl [Hr20]; · iexact Hr20
    iexact Hr21
  iintro HO
  iapply (step_signal m c K 1 (o := 7) (dev2_eq c) rfl rfl) $$ [HO Hb1 Hr10 Hr11]
  · isplitr; · iexact HW
    isplitl [HO]; · iexact HO
    isplitl [Hb1]; · iexact Hb1
    isplitl [Hr10]; · iexact Hr10
    iexact Hr11
  iintro HO
  iapply (step_signal m c K 2 (o := 6) (dev3_eq c) rfl rfl) $$ [HO Hb2 Hr00 Hr01]
  · isplitr; · iexact HW
    isplitl [HO]; · iexact HO
    isplitl [Hb2]; · iexact Hb2
    isplitl [Hr00]; · iexact Hr00
    iexact Hr01
  iintro HO
  -- part 2
  rw [k0_part2_eq_skeleton]; unfold k0_part2_skel
  simp only [semSignalWord, semWaitWord, smemLoad, smemLoadElt, Prog.lift, Prog.bind_op, Prog.bind_ret, Prog.pure_eq_ret, wp_deviceId, pay3_eq, pay5_eq, pay6_eq, pay7_eq, pay8_eq, pay10_eq, pay12_eq, pay14_eq, pay16_eq, pay17_eq, pay18_eq, pay19_eq, pay20_eq, pay21_eq, pay22_eq]
  -- part 3
  rw [k0_part3_eq_skeleton]; unfold k0_part3_skel
  simp only [semSignalWord, semWaitWord, smemLoad, smemLoadElt, Prog.lift, Prog.bind_op, Prog.bind_ret, Prog.pure_eq_ret, wp_deviceId, pay3_eq, pay5_eq, pay6_eq, pay7_eq, pay8_eq, pay10_eq, pay12_eq, pay14_eq, pay16_eq, pay17_eq, pay18_eq, pay19_eq, pay20_eq, pay21_eq, pay22_eq]
  iapply (step_xfetch m c 0 1 0) $$ [Ht0 Hx0 Hv0]
  · isplitl [Ht0]; · iexact Ht0
    isplitl [Hx0]; · iexact Hx0
    iexact Hv0
  iintro Ht0
  iapply (step_xfetch m c 1 1 1) $$ [Ht1 Hx1 Hv1]
  · isplitl [Ht1]; · iexact Ht1
    isplitl [Hx1]; · iexact Hx1
    iexact Hv1
  iintro Ht1
  iapply (step_barrier m c K) $$ [HcB HO HaB]
  · isplitr; · iexact HW
    isplitl [HcB]; · iexact HcB
    isplitl [HO]; · iexact HO
    iexact HaB
  unfold barPay slotReady
  iintro ⟨HO, HaB, ⟨⟨⟨%p1, Hp00⟩, -⟩, ⟨⟨%p2, Hp01⟩, -⟩⟩, ⟨⟨⟨%p3, Hp10⟩, -⟩, ⟨⟨%p4, Hp11⟩, -⟩⟩, ⟨⟨⟨%p5, Hp20⟩, -⟩, ⟨⟨%p6, Hp21⟩, -⟩⟩⟩
  iapply (step_xfetched m c K 0 rfl) $$ [Ht0 HO]
  · isplitr; · iexact HW
    isplitl [Ht0]; · iexact Ht0
    iexact HO
  iintro ⟨Ht0, Hx0, Hv0, HO⟩
  iapply (step_load c) $$ Ht0; iintro Ht0
  -- part 4
  rw [k0_part4_eq_skeleton]; unfold k0_part4_skel
  simp only [semSignalWord, semWaitWord, smemLoad, smemLoadElt, Prog.lift, Prog.bind_op, Prog.bind_ret, Prog.pure_eq_ret, wp_deviceId, pay3_eq, pay5_eq, pay6_eq, pay7_eq, pay8_eq, pay10_eq, pay12_eq, pay14_eq, pay16_eq, pay17_eq, pay18_eq, pay19_eq, pay20_eq, pay21_eq, pay22_eq]
  iapply (step_load c) $$ Hq00; iintro Hq00
  iapply (step_store c) $$ Hq00; iintro Hq00
  iapply (step_send m c K 0 0 (o := 5) (dev4_eq c) rfl rfl) $$ [Hq00 Hp00 HO Hs00 Hd00]
  · isplitr; · iexact HW
    isplitl [Hq00]; · iexact Hq00
    isplitl [Hp00]; · iexact Hp00
    isplitl [HO]; · iexact HO
    isplitl [Hs00]; · iexact Hs00
    iexact Hd00
  iintro ⟨He00, HO⟩
  iapply (step_xfetch m c 0 2 0) $$ [Ht0 Hx0 Hv0]
  · isplitl [Ht0]; · iexact Ht0
    isplitl [Hx0]; · iexact Hx0
    iexact Hv0
  iintro Ht0
  iapply (step_xfetched m c K 1 rfl) $$ [Ht1 HO]
  · isplitr; · iexact HW
    isplitl [Ht1]; · iexact Ht1
    iexact HO
  iintro ⟨Ht1, Hx1, Hv1, HO⟩
  -- part 5
  rw [k0_part5_eq_skeleton]; unfold k0_part5_skel
  simp only [semSignalWord, semWaitWord, smemLoad, smemLoadElt, Prog.lift, Prog.bind_op, Prog.bind_ret, Prog.pure_eq_ret, wp_deviceId, pay3_eq, pay5_eq, pay6_eq, pay7_eq, pay8_eq, pay10_eq, pay12_eq, pay14_eq, pay16_eq, pay17_eq, pay18_eq, pay19_eq, pay20_eq, pay21_eq, pay22_eq]
  iapply (step_load c) $$ Ht1; iintro Ht1
  iapply (step_load c) $$ Hq01; iintro Hq01
  iapply (step_store c) $$ Hq01; iintro Hq01
  iapply (step_send m c K 0 1 (o := 4) (dev5_eq c) rfl rfl) $$ [Hq01 Hp01 HO Hs01 Hd01]
  · isplitr; · iexact HW
    isplitl [Hq01]; · iexact Hq01
    isplitl [Hp01]; · iexact Hp01
    isplitl [HO]; · iexact HO
    isplitl [Hs01]; · iexact Hs01
    iexact Hd01
  iintro ⟨He01, HO⟩
  iapply (step_xfetch m c 1 2 1) $$ [Ht1 Hx1 Hv1]
  · isplitl [Ht1]; · iexact Ht1
    isplitl [Hx1]; · iexact Hx1
    iexact Hv1
  iintro Ht1
  -- part 6
  rw [k0_part6_eq_skeleton]; unfold k0_part6_skel
  simp only [semSignalWord, semWaitWord, smemLoad, smemLoadElt, Prog.lift, Prog.bind_op, Prog.bind_ret, Prog.pure_eq_ret, wp_deviceId, pay3_eq, pay5_eq, pay6_eq, pay7_eq, pay8_eq, pay10_eq, pay12_eq, pay14_eq, pay16_eq, pay17_eq, pay18_eq, pay19_eq, pay20_eq, pay21_eq, pay22_eq]
  iapply (step_wfetch m c 0 0) $$ [Hg0 Hw0 Hz0]
  · isplitl [Hg0]; · iexact Hg0
    isplitl [Hw0]; · iexact Hw0
    iexact Hz0
  iintro Hg0
  iapply (step_xfetched m c K 0 rfl) $$ [Ht0 HO]
  · isplitr; · iexact HW
    isplitl [Ht0]; · iexact Ht0
    iexact HO
  iintro ⟨Ht0, Hx0, Hv0, HO⟩
  iapply (step_load c) $$ Ht0; iintro Ht0
  iapply (step_load c) $$ Hq10; iintro Hq10
  iapply (step_store c) $$ Hq10; iintro Hq10
  iapply (step_send m c K 1 0 (o := 3) (dev6_eq c) rfl rfl) $$ [Hq10 Hp10 HO Hs10 Hd10]
  · isplitr; · iexact HW
    isplitl [Hq10]; · iexact Hq10
    isplitl [Hp10]; · iexact Hp10
    isplitl [HO]; · iexact HO
    isplitl [Hs10]; · iexact Hs10
    iexact Hd10
  iintro ⟨He10, HO⟩
  -- part 7
  rw [k0_part7_eq_skeleton]; unfold k0_part7_skel
  simp only [semSignalWord, semWaitWord, smemLoad, smemLoadElt, Prog.lift, Prog.bind_op, Prog.bind_ret, Prog.pure_eq_ret, wp_deviceId, pay3_eq, pay5_eq, pay6_eq, pay7_eq, pay8_eq, pay10_eq, pay12_eq, pay14_eq, pay16_eq, pay17_eq, pay18_eq, pay19_eq, pay20_eq, pay21_eq, pay22_eq]
  iapply (step_xfetch m c 0 3 0) $$ [Ht0 Hx0 Hv0]
  · isplitl [Ht0]; · iexact Ht0
    isplitl [Hx0]; · iexact Hx0
    iexact Hv0
  iintro Ht0
  iapply (step_xfetched m c K 1 rfl) $$ [Ht1 HO]
  · isplitr; · iexact HW
    isplitl [Ht1]; · iexact Ht1
    iexact HO
  iintro ⟨Ht1, Hx1, Hv1, HO⟩
  iapply (step_load c) $$ Ht1; iintro Ht1
  iapply (step_load c) $$ Hq11; iintro Hq11
  iapply (step_store c) $$ Hq11; iintro Hq11
  -- part 8
  rw [k0_part8_eq_skeleton]; unfold k0_part8_skel
  simp only [semSignalWord, semWaitWord, smemLoad, smemLoadElt, Prog.lift, Prog.bind_op, Prog.bind_ret, Prog.pure_eq_ret, wp_deviceId, pay3_eq, pay5_eq, pay6_eq, pay7_eq, pay8_eq, pay10_eq, pay12_eq, pay14_eq, pay16_eq, pay17_eq, pay18_eq, pay19_eq, pay20_eq, pay21_eq, pay22_eq]
  iapply (step_send m c K 1 1 (o := 2) (dev7_eq c) rfl rfl) $$ [Hq11 Hp11 HO Hs11 Hd11]
  · isplitr; · iexact HW
    isplitl [Hq11]; · iexact Hq11
    isplitl [Hp11]; · iexact Hp11
    isplitl [HO]; · iexact HO
    isplitl [Hs11]; · iexact Hs11
    iexact Hd11
  iintro ⟨He11, HO⟩
  iapply (step_xfetch m c 1 3 1) $$ [Ht1 Hx1 Hv1]
  · isplitl [Ht1]; · iexact Ht1
    isplitl [Hx1]; · iexact Hx1
    iexact Hv1
  iintro Ht1
  iapply (step_xfetched m c K 0 rfl) $$ [Ht0 HO]
  · isplitr; · iexact HW
    isplitl [Ht0]; · iexact Ht0
    iexact HO
  iintro ⟨Ht0, Hx0, Hv0, HO⟩
  iapply (step_load c) $$ Ht0; iintro Ht0
  iapply (step_load c) $$ Hq20; iintro Hq20
  iapply (step_store c) $$ Hq20; iintro Hq20
  -- part 9
  rw [k0_part9_eq_skeleton]; unfold k0_part9_skel
  simp only [semSignalWord, semWaitWord, smemLoad, smemLoadElt, Prog.lift, Prog.bind_op, Prog.bind_ret, Prog.pure_eq_ret, wp_deviceId, pay3_eq, pay5_eq, pay6_eq, pay7_eq, pay8_eq, pay10_eq, pay12_eq, pay14_eq, pay16_eq, pay17_eq, pay18_eq, pay19_eq, pay20_eq, pay21_eq, pay22_eq]
  iapply (step_send m c K 2 0 (o := 1) (dev8_eq c) rfl rfl) $$ [Hq20 Hp20 HO Hs20 Hd20]
  · isplitr; · iexact HW
    isplitl [Hq20]; · iexact Hq20
    isplitl [Hp20]; · iexact Hp20
    isplitl [HO]; · iexact HO
    isplitl [Hs20]; · iexact Hs20
    iexact Hd20
  iintro ⟨He20, HO⟩
  iapply (step_xfetch m c 0 0 0) $$ [Ht0 Hx0 Hv0]
  · isplitl [Ht0]; · iexact Ht0
    isplitl [Hx0]; · iexact Hx0
    iexact Hv0
  iintro Ht0
  iapply (step_xfetched m c K 1 rfl) $$ [Ht1 HO]
  · isplitr; · iexact HW
    isplitl [Ht1]; · iexact Ht1
    iexact HO
  iintro ⟨Ht1, Hx1, Hv1, HO⟩
  iapply (step_load c) $$ Ht1; iintro Ht1
  iapply (step_load c) $$ Hq21; iintro Hq21
  iapply (step_store c) $$ Hq21; iintro Hq21
  -- part 10
  rw [k0_part10_eq_skeleton]; unfold k0_part10_skel
  simp only [semSignalWord, semWaitWord, smemLoad, smemLoadElt, Prog.lift, Prog.bind_op, Prog.bind_ret, Prog.pure_eq_ret, wp_deviceId, pay3_eq, pay5_eq, pay6_eq, pay7_eq, pay8_eq, pay10_eq, pay12_eq, pay14_eq, pay16_eq, pay17_eq, pay18_eq, pay19_eq, pay20_eq, pay21_eq, pay22_eq]
  iapply (step_send m c K 2 1 (o := 0) (dev9_eq c) rfl rfl) $$ [Hq21 Hp21 HO Hs21 Hd21]
  · isplitr; · iexact HW
    isplitl [Hq21]; · iexact Hq21
    isplitl [Hp21]; · iexact Hp21
    isplitl [HO]; · iexact HO
    isplitl [Hs21]; · iexact Hs21
    iexact Hd21
  iintro ⟨He21, HO⟩
  iapply (step_xfetch m c 1 0 1) $$ [Ht1 Hx1 Hv1]
  · isplitl [Ht1]; · iexact Ht1
    isplitl [Hx1]; · iexact Hx1
    iexact Hv1
  iintro Ht1
  iapply (step_xfetched m c K 0 rfl) $$ [Ht0 HO]
  · isplitr; · iexact HW
    isplitl [Ht0]; · iexact Ht0
    iexact HO
  iintro ⟨Ht0, Hx0, Hv0, HO⟩
  iapply (step_load c) $$ Ht0; iintro Ht0
  iapply (step_load c) $$ Ho0; iintro Ho0
  iapply (step_store c) $$ Ho0; iintro Ho0
  iapply (step_xfetched m c K 1 rfl) $$ [Ht1 HO]
  · isplitr; · iexact HW
    isplitl [Ht1]; · iexact Ht1
    iexact HO
  iintro ⟨Ht1, Hx1, Hv1, HO⟩
  -- part 11
  rw [k0_part11_eq_skeleton]; unfold k0_part11_skel
  simp only [semSignalWord, semWaitWord, smemLoad, smemLoadElt, Prog.lift, Prog.bind_op, Prog.bind_ret, Prog.pure_eq_ret, wp_deviceId, pay3_eq, pay5_eq, pay6_eq, pay7_eq, pay8_eq, pay10_eq, pay12_eq, pay14_eq, pay16_eq, pay17_eq, pay18_eq, pay19_eq, pay20_eq, pay21_eq, pay22_eq]
  iapply (step_load c) $$ Ht1; iintro Ht1
  iapply (step_load c) $$ Ho1; iintro Ho1
  iapply (step_store c) $$ Ho1; iintro Ho1
  iapply (step_wfetch m c 1 1) $$ [Hg1 Hw1 Hz1]
  · isplitl [Hg1]; · iexact Hg1
    isplitl [Hw1]; · iexact Hw1
    iexact Hz1
  iintro Hg1
  iapply (step_wfetched m c K 0 rfl) $$ [Hg0 HO]
  · isplitr; · iexact HW
    isplitl [Hg0]; · iexact Hg0
    iexact HO
  iintro ⟨Hg0, Hw0, Hz0, HO⟩
  iapply (step_load c) $$ Hg0; iintro Hg0
  iapply (step_wfetch m c 0 2) $$ [Hg0 Hw0 Hz0]
  · isplitl [Hg0]; · iexact Hg0
    isplitl [Hw0]; · iexact Hw0
    iexact Hz0
  iintro Hg0
  iapply (step_load c) $$ Ho0; iintro Ho0
  -- part 12
  rw [k0_part12_eq_skeleton]; unfold k0_part12_skel
  simp only [semSignalWord, semWaitWord, smemLoad, smemLoadElt, Prog.lift, Prog.bind_op, Prog.bind_ret, Prog.pure_eq_ret, wp_deviceId, pay3_eq, pay5_eq, pay6_eq, pay7_eq, pay8_eq, pay10_eq, pay12_eq, pay14_eq, pay16_eq, pay17_eq, pay18_eq, pay19_eq, pay20_eq, pay21_eq, pay22_eq]
  iapply (step_load c) $$ Hy0; iintro Hy0
  iapply (step_store c) $$ Hy0; iintro Hy0
  iapply (step_load c) $$ Ho1; iintro Ho1
  iapply (step_load c) $$ Hy1; iintro Hy1
  iapply (step_store c) $$ Hy1; iintro Hy1
  iapply (step_wfetched m c K 1 rfl) $$ [Hg1 HO]
  · isplitr; · iexact HW
    isplitl [Hg1]; · iexact Hg1
    iexact HO
  iintro ⟨Hg1, Hw1, Hz1, HO⟩
  iapply (step_load c) $$ Hg1; iintro Hg1
  iapply (step_wfetch m c 1 3) $$ [Hg1 Hw1 Hz1]
  · isplitl [Hg1]; · iexact Hg1
    isplitl [Hw1]; · iexact Hw1
    iexact Hz1
  iintro Hg1
  -- part 13
  rw [k0_part13_eq_skeleton]; unfold k0_part13_skel
  simp only [semSignalWord, semWaitWord, smemLoad, smemLoadElt, Prog.lift, Prog.bind_op, Prog.bind_ret, Prog.pure_eq_ret, wp_deviceId, pay3_eq, pay5_eq, pay6_eq, pay7_eq, pay8_eq, pay10_eq, pay12_eq, pay14_eq, pay16_eq, pay17_eq, pay18_eq, pay19_eq, pay20_eq, pay21_eq, pay22_eq]
  iapply (step_recv m c K 0 0 rfl) $$ [Hc00 HO HaR00]
  · isplitr; · iexact HW
    isplitl [Hc00]; · iexact Hc00
    isplitl [HO]; · iexact HO
    iexact HaR00
  iintro ⟨HO, HaR00, Hr00⟩
  iapply (step_load c) $$ Hy0; iintro Hy0
  iapply (step_load c) $$ Hr00; iintro Hr00
  iapply (step_load c) $$ Hy0; iintro Hy0
  iapply (step_store c) $$ Hy0; iintro Hy0
  iapply (step_recv m c K 0 1 rfl) $$ [Hc01 HO HaR01]
  · isplitr; · iexact HW
    isplitl [Hc01]; · iexact Hc01
    isplitl [HO]; · iexact HO
    iexact HaR01
  iintro ⟨HO, HaR01, Hr01⟩
  iapply (step_load c) $$ Hy1; iintro Hy1
  iapply (step_load c) $$ Hr01; iintro Hr01
  iapply (step_load c) $$ Hy1; iintro Hy1
  -- part 14
  rw [k0_part14_eq_skeleton]; unfold k0_part14_skel
  simp only [semSignalWord, semWaitWord, smemLoad, smemLoadElt, Prog.lift, Prog.bind_op, Prog.bind_ret, Prog.pure_eq_ret, wp_deviceId, pay3_eq, pay5_eq, pay6_eq, pay7_eq, pay8_eq, pay10_eq, pay12_eq, pay14_eq, pay16_eq, pay17_eq, pay18_eq, pay19_eq, pay20_eq, pay21_eq, pay22_eq]
  iapply (step_store c) $$ Hy1; iintro Hy1
  iapply (step_wfetched m c K 0 rfl) $$ [Hg0 HO]
  · isplitr; · iexact HW
    isplitl [Hg0]; · iexact Hg0
    iexact HO
  iintro ⟨Hg0, Hw0, Hz0, HO⟩
  iapply (step_load c) $$ Hg0; iintro Hg0
  iapply (step_recv m c K 1 0 rfl) $$ [Hc10 HO HaR10]
  · isplitr; · iexact HW
    isplitl [Hc10]; · iexact Hc10
    isplitl [HO]; · iexact HO
    iexact HaR10
  iintro ⟨HO, HaR10, Hr10⟩
  iapply (step_load c) $$ Hy0; iintro Hy0
  iapply (step_load c) $$ Hr10; iintro Hr10
  iapply (step_load c) $$ Hy0; iintro Hy0
  iapply (step_store c) $$ Hy0; iintro Hy0
  -- part 15
  rw [k0_part15_eq_skeleton]; unfold k0_part15_skel
  simp only [semSignalWord, semWaitWord, smemLoad, smemLoadElt, Prog.lift, Prog.bind_op, Prog.bind_ret, Prog.pure_eq_ret, wp_deviceId, pay3_eq, pay5_eq, pay6_eq, pay7_eq, pay8_eq, pay10_eq, pay12_eq, pay14_eq, pay16_eq, pay17_eq, pay18_eq, pay19_eq, pay20_eq, pay21_eq, pay22_eq]
  iapply (step_recv m c K 1 1 rfl) $$ [Hc11 HO HaR11]
  · isplitr; · iexact HW
    isplitl [Hc11]; · iexact Hc11
    isplitl [HO]; · iexact HO
    iexact HaR11
  iintro ⟨HO, HaR11, Hr11⟩
  iapply (step_load c) $$ Hy1; iintro Hy1
  iapply (step_load c) $$ Hr11; iintro Hr11
  iapply (step_load c) $$ Hy1; iintro Hy1
  iapply (step_store c) $$ Hy1; iintro Hy1
  iapply (step_wfetched m c K 1 rfl) $$ [Hg1 HO]
  · isplitr; · iexact HW
    isplitl [Hg1]; · iexact Hg1
    iexact HO
  iintro ⟨Hg1, Hw1, Hz1, HO⟩
  iapply (step_load c) $$ Hg1; iintro Hg1
  -- part 16
  rw [k0_part16_eq_skeleton]; unfold k0_part16_skel
  simp only [semSignalWord, semWaitWord, smemLoad, smemLoadElt, Prog.lift, Prog.bind_op, Prog.bind_ret, Prog.pure_eq_ret, wp_deviceId, pay3_eq, pay5_eq, pay6_eq, pay7_eq, pay8_eq, pay10_eq, pay12_eq, pay14_eq, pay16_eq, pay17_eq, pay18_eq, pay19_eq, pay20_eq, pay21_eq, pay22_eq]
  iapply (step_recv m c K 2 0 rfl) $$ [Hc20 HO HaR20]
  · isplitr; · iexact HW
    isplitl [Hc20]; · iexact Hc20
    isplitl [HO]; · iexact HO
    iexact HaR20
  iintro ⟨HO, HaR20, Hr20⟩
  iapply (step_load c) $$ Hy0; iintro Hy0
  iapply (step_load c) $$ Hr20; iintro Hr20
  iapply (step_load c) $$ Hy0; iintro Hy0
  iapply (step_store c) $$ Hy0; iintro Hy0
  iapply (step_recv m c K 2 1 rfl) $$ [Hc21 HO HaR21]
  · isplitr; · iexact HW
    isplitl [Hc21]; · iexact Hc21
    isplitl [HO]; · iexact HO
    iexact HaR21
  iintro ⟨HO, HaR21, Hr21⟩
  -- part 17
  rw [k0_part17_eq_skeleton]; unfold k0_part17_skel
  simp only [semSignalWord, semWaitWord, smemLoad, smemLoadElt, Prog.lift, Prog.bind_op, Prog.bind_ret, Prog.pure_eq_ret, wp_deviceId, pay3_eq, pay5_eq, pay6_eq, pay7_eq, pay8_eq, pay10_eq, pay12_eq, pay14_eq, pay16_eq, pay17_eq, pay18_eq, pay19_eq, pay20_eq, pay21_eq, pay22_eq]
  iapply (step_load c) $$ Hy1; iintro Hy1
  iapply (step_load c) $$ Hr21; iintro Hr21
  iapply (step_load c) $$ Hy1; iintro Hy1
  iapply (step_store c) $$ Hy1; iintro Hy1
  ihave Hy := (held_stack c) $$ [Hy0 Hy1]
  · isplitl [Hy0]; · iexact Hy0
    iexact Hy1
  iapply (step_load c) $$ Hy; iintro Hy
  iapply (step_load c) $$ Hy; iintro Hy
  iapply (step_store c) $$ Hy; iintro Hy
  -- part 18
  rw [k0_part18_eq_skeleton]; unfold k0_part18_skel
  simp only [semSignalWord, semWaitWord, smemLoad, smemLoadElt, Prog.lift, Prog.bind_op, Prog.bind_ret, Prog.pure_eq_ret, wp_deviceId, pay3_eq, pay5_eq, pay6_eq, pay7_eq, pay8_eq, pay10_eq, pay12_eq, pay14_eq, pay16_eq, pay17_eq, pay18_eq, pay19_eq, pay20_eq, pay21_eq, pay22_eq]
  iapply (step_sent m c K 0 0 rfl) $$ [He00 HO HaS00]
  · isplitr; · iexact HW
    isplitl [He00]; · iexact He00
    isplitl [HO]; · iexact HO
    iexact HaS00
  iintro ⟨HO, HaS00, Hq00⟩
  iapply (step_sent m c K 0 1 rfl) $$ [He01 HO HaS01]
  · isplitr; · iexact HW
    isplitl [He01]; · iexact He01
    isplitl [HO]; · iexact HO
    iexact HaS01
  iintro ⟨HO, HaS01, Hq01⟩
  iapply (step_sent m c K 1 0 rfl) $$ [He10 HO HaS10]
  · isplitr; · iexact HW
    isplitl [He10]; · iexact He10
    isplitl [HO]; · iexact HO
    iexact HaS10
  iintro ⟨HO, HaS10, Hq10⟩
  iapply (step_sent m c K 1 1 rfl) $$ [He11 HO HaS11]
  · isplitr; · iexact HW
    isplitl [He11]; · iexact He11
    isplitl [HO]; · iexact HO
    iexact HaS11
  iintro ⟨HO, HaS11, Hq11⟩
  iapply (step_sent m c K 2 0 rfl) $$ [He20 HO HaS20]
  · isplitr; · iexact HW
    isplitl [He20]; · iexact He20
    isplitl [HO]; · iexact HO
    iexact HaS20
  iintro ⟨HO, HaS20, Hq20⟩
  iapply (step_sent m c K 2 1 rfl) $$ [He21 HO HaS21]
  · isplitr; · iexact HW
    isplitl [He21]; · iexact He21
    isplitl [HO]; · iexact HO
    iexact HaS21
  iintro ⟨HO, HaS21, Hq21⟩
  imod (step_close m c K none) $$ [HaB] with HzB
  · isplitr; · iexact HW
    iexact HaB
  imod (step_close m c K (some (false, 0, 0))) $$ [HaS00] with HzS00
  · isplitr; · iexact HW
    iexact HaS00
  imod (step_close m c K (some (true, 0, 0))) $$ [HaR00] with HzR00
  · isplitr; · iexact HW
    iexact HaR00
  imod (step_close m c K (some (false, 0, 1))) $$ [HaS01] with HzS01
  · isplitr; · iexact HW
    iexact HaS01
  imod (step_close m c K (some (true, 0, 1))) $$ [HaR01] with HzR01
  · isplitr; · iexact HW
    iexact HaR01
  imod (step_close m c K (some (false, 1, 0))) $$ [HaS10] with HzS10
  · isplitr; · iexact HW
    iexact HaS10
  imod (step_close m c K (some (true, 1, 0))) $$ [HaR10] with HzR10
  · isplitr; · iexact HW
    iexact HaR10
  imod (step_close m c K (some (false, 1, 1))) $$ [HaS11] with HzS11
  · isplitr; · iexact HW
    iexact HaS11
  imod (step_close m c K (some (true, 1, 1))) $$ [HaR11] with HzR11
  · isplitr; · iexact HW
    iexact HaR11
  imod (step_close m c K (some (false, 2, 0))) $$ [HaS20] with HzS20
  · isplitr; · iexact HW
    iexact HaS20
  imod (step_close m c K (some (true, 2, 0))) $$ [HaR20] with HzR20
  · isplitr; · iexact HW
    iexact HaR20
  imod (step_close m c K (some (false, 2, 1))) $$ [HaS21] with HzS21
  · isplitr; · iexact HW
    iexact HaS21
  imod (step_close m c K (some (true, 2, 1))) $$ [HaR21] with HzR21
  · isplitr; · iexact HW
    iexact HaR21
  rw [wp_ret]; imodintro
  iapply Hk
  unfold bodyPost scratch fetchSems hopSems arrays sendPay
  isplitl [Hq00 Hq01 Hq10 Hq11 Hq20 Hq21 Hr00 Hr01 Hr10 Hr11 Hr20 Hr21 Ho0 Ho1 Ht0 Ht1 Hg0 Hg1]
  · isplitl [Hq00 Hq01 Hq10 Hq11 Hq20 Hq21]
    · isplitl [Hq00]
      · iexact Hq00
      isplitl [Hq01]
      · iexact Hq01
      isplitl [Hq10]
      · iexact Hq10
      isplitl [Hq11]
      · iexact Hq11
      isplitl [Hq20]
      · iexact Hq20
      iexact Hq21
    isplitl [Hr00 Hr01 Hr10 Hr11 Hr20 Hr21]
    · isplitl [Hr00]
      · iexists _; iexact Hr00
      isplitl [Hr01]
      · iexists _; iexact Hr01
      isplitl [Hr10]
      · iexists _; iexact Hr10
      isplitl [Hr11]
      · iexists _; iexact Hr11
      isplitl [Hr20]
      · iexists _; iexact Hr20
      iexists _; iexact Hr21
    isplitl [Ho0 Ho1]
    · isplitl [Ho0]
      · iexists _; iexact Ho0
      iexists _; iexact Ho1
    isplitl [Ht0 Ht1]
    · isplitl [Ht0]
      · iexists _; iexact Ht0
      iexists _; iexact Ht1
    isplitl [Hg0]
    · iexists _; iexact Hg0
    iexists _; iexact Hg1
  isplitl [Hv0 Hv1 Hz0 Hz1]
  · isplitl [Hv0 Hv1]
    · isplitl [Hv0]
      · iexact Hv0
      iexact Hv1
    isplitl [Hz0]
    · iexact Hz0
    iexact Hz1
  isplitl [HzB HzS00 HzS01 HzS10 HzS11 HzS20 HzS21 HzR00 HzR01 HzR10 HzR11 HzR20 HzR21]
  · isplitl [HzB]
    · iexact HzB
    isplitl [HzS00 HzS01 HzS10 HzS11 HzS20 HzS21]
    · isplitl [HzS00]
      · iexact HzS00
      isplitl [HzS01]
      · iexact HzS01
      isplitl [HzS10]
      · iexact HzS10
      isplitl [HzS11]
      · iexact HzS11
      isplitl [HzS20]
      · iexact HzS20
      iexact HzS21
    isplitl [HzR00]
    · iexact HzR00
    isplitl [HzR01]
    · iexact HzR01
    isplitl [HzR10]
    · iexact HzR10
    isplitl [HzR11]
    · iexact HzR11
    isplitl [HzR20]
    · iexact HzR20
    iexact HzR21
  isplitl [Hx0 Hx1 Hw0 Hw1]
  · isplitl [Hx0 Hx1]
    · isplitl [Hx0]
      · iexact Hx0
      iexact Hx1
    isplitl [Hw0]
    · iexact Hw0
    iexact Hw1
  isplitl [HO]
  · iexact HO
  isplitl [Hsx]
  · iexact Hsx
  isplitl [Hsw]
  · iexact Hsw
  iexact Hy

end Cert.Exchange

end
-- ==== Proof.Slots.lean ====
/- Buffers cut into slots: a buffer held whole is its slots held, and the slots held are the buffer
   held whole, whatever each holds. Stated once for any buffer and any rectangles told apart by a key. -/
module

public import proofs.«01_k».proof.Proof.Body
public import Idealize.ShloMosaic.Lib.Ring

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (c : Dev nD)

section General
variable {B : Type} [Fintype B] [DecidableEq B] (b : Ref sig .tc) (r : B → Rect b.ty.shape) (key : b.ty.shape.Idx → B)

/-- A buffer held whole, whatever it holds. -/
abbrev wholeAny : sProp 𝕄 := iprop(∃ f : Buf (Elt F) ((c : Thread nD τ).loc b), ((c : Thread nD τ).loc b) ↦{fullShare} f)
/-- Slot `x` of it held, whatever it holds. -/
abbrev slotAny (x : B) : sProp 𝕄 := iprop(∃ X, held c ((View.whole b : View sig .tc _ _ _).slice (r x)) X)

theorem key_disjoint (hk : ∀ i x, i ∈ (r x).set ↔ key i = x) : ∀ x y, x ≠ y → Disjoint (r x).set (r y).set := fun x y h => by
  rw [Finset.disjoint_left]; intro i hx hy
  exact h (((hk i x).1 hx).symm.trans ((hk i y).1 hy))
theorem key_cover (hk : ∀ i x, i ∈ (r x).set ↔ key i = x) : Finset.univ.biUnion (fun x => (r x).set) = Finset.univ :=
  Finset.eq_univ_of_forall fun i => Finset.mem_biUnion.2 ⟨key i, Finset.mem_univ _, (hk i (key i)).2 rfl⟩

omit [FloatOps F] in
/-- A slot held at contents of the buffer is the slot held; -/
theorem slot_intro (x : B) (f : Buf (Elt F) ((c : Thread nD τ).loc b)) :
    (((c : Thread nD τ).loc b) ↦[(r x).set]{fullShare} f : sProp 𝕄) ⊢ slotAny c b r x := by
  unfold slotAny held
  rw [View.set_slice_whole]
  iintro H
  iexists _; iexists f
  isplitr; · (ipureintro; rfl)
  iexact H
omit [FloatOps F] in
/-- and the other way around. -/
theorem slot_elim (x : B) :
    slotAny c b r x ⊢ (iprop(∃ f, ((c : Thread nD τ).loc b) ↦[(r x).set]{fullShare} f) : sProp 𝕄) := by
  unfold slotAny held
  rw [View.set_slice_whole]
  iintro ⟨%X, %f, -, H⟩
  iexists f; iexact H

omit [FloatOps F] in
/-- A buffer held whole is its slots held; -/
theorem whole_slots (hk : ∀ i x, i ∈ (r x).set ↔ key i = x) : wholeAny (F := F) c b ⊢ bigSep Finset.univ (slotAny (F := F) c b r) := by
  have h (f : Buf (Elt F) ((c : Thread nD τ).loc b)) : (((c : Thread nD τ).loc b) ↦{fullShare} f : sProp 𝕄) ⊢ bigSep Finset.univ (slotAny (F := F) c b r) := by
    rw [Ring.pointsTo_blocks (ℓ := (c : Thread nD τ).loc b) (fun x => (r x).set) (key_disjoint b r key hk) (key_cover b r key hk) f]
    exact bigSep_mono fun x _ => slot_intro (F := F) c b r x f
  unfold wholeAny
  iintro ⟨%f, H⟩
  iapply (h f); iexact H

/-- and its slots held are the buffer held whole. -/
theorem slots_whole (hk : ∀ i x, i ∈ (r x).set ↔ key i = x) : bigSep Finset.univ (slotAny (F := F) c b r) ⊢ wholeAny (F := F) c b := by
  have f₀ : Buf (Elt F) ((c : Thread nD τ).loc b) := fun _ => Classical.choice (inferInstance : Nonempty (Elt F b.ty.elt))
  refine BI.Entails.trans (bigSep_mono fun x _ => slot_elim (F := F) c b r x) ?_
  exact Ring.pointsTo_blocks_join_exists (ℓ := (c : Thread nD τ).loc b) (fun x => (r x).set) (key_disjoint b r key hk) (key_cover b r key hk) f₀

variable (off : Fin b.ty.shape.rank → ℕ) (hz : off = fun _ => 0) (inb : ∀ a, off a + b.ty.shape.size a ≤ b.ty.shape.size a)

theorem emb_all (i : b.ty.shape.Idx) : (Rect.unit (s := b.ty.shape) (fun _ => 0) b.ty.shape.size (fun a => by simp)).emb i = i := by
  funext a; apply Fin.ext; show 0 + 1 * (i a).val = (i a).val; omega

include hz in
omit [FloatOps F] in
/-- A view of every element of a buffer held is the buffer held whole. -/
theorem held_all (X : b.ty.shape.Idx → Elt F b.ty.elt) :
    held (F := F) c ((View.whole b : View sig .tc _ _ _).slice (Rect.unit (s := b.ty.shape) off b.ty.shape.size inb)) X
      = (iprop(∃ f : Buf (Elt F) ((c : Thread nD τ).loc b), ⌜f = X⌝ ∗ (((c : Thread nD τ).loc b) ↦{fullShare} f)) : sProp 𝕄) := by
  subst hz
  have hs : ((View.whole b : View sig .tc _ _ _).slice (Rect.unit (s := b.ty.shape) (fun _ => 0) b.ty.shape.size inb)).set = Finset.univ := by
    rw [View.set_slice_whole]
    exact Finset.eq_univ_of_forall fun i => Rect.mem_set_unit.2 fun a => ⟨Nat.zero_le _, by have := (i a).isLt; omega⟩
  have hr (f : Buf (Elt F) ((c : Thread nD τ).loc b)) :
      ((View.whole b : View sig .tc _ _ _).slice (Rect.unit (s := b.ty.shape) (fun _ => 0) b.ty.shape.size inb)).read (Elt F) f = f :=
    funext fun i => congrArg f (emb_all b i)
  unfold held
  rw [hs]
  simp only [hr]

end General

/-! ## The kernel's buffers -/

theorem key4 (i : S3x2x512x1024.Idx) (x : Fin 3 × Fin 2) : i ∈ (r4 x.1 x.2).set ↔ ((i 0, i 1) : Fin 3 × Fin 2) = x := by
  obtain ⟨j, k⟩ := x
  have h2 : (i 2).val < 512 := (i 2).isLt
  have h3 : (i 3).val < 1024 := (i 3).isLt
  rw [Rect.mem_set_unit]
  constructor
  · intro h
    have a0 := h 0
    have a1 := h 1
    change j.val ≤ (i 0).val ∧ (i 0).val < j.val + 1 at a0
    change k.val ≤ (i 1).val ∧ (i 1).val < k.val + 1 at a1
    exact Prod.ext (Fin.ext (by show (i 0).val = j.val; omega)) (Fin.ext (by show (i 1).val = k.val; omega))
  · intro h a
    have e0 : (i 0).val = j.val := congrArg (fun y : Fin 3 × Fin 2 => y.1.val) h
    have e1 : (i 1).val = k.val := congrArg (fun y : Fin 3 × Fin 2 => y.2.val) h
    match a with
    | ⟨0, _⟩ => show j.val ≤ (i 0).val ∧ (i 0).val < j.val + 1; omega
    | ⟨1, _⟩ => show k.val ≤ (i 1).val ∧ (i 1).val < k.val + 1; omega
    | ⟨2, _⟩ => show 0 ≤ (i 2).val ∧ (i 2).val < 0 + 512; omega
    | ⟨3, _⟩ => show 0 ≤ (i 3).val ∧ (i 3).val < 0 + 1024; omega

theorem key3 {n p q : ℕ} (i : (⟨3, ![n, p, q]⟩ : Shape).Idx) (x : Fin n) (inb : ∀ a, (![x.val, 0, 0] : Fin 3 → ℕ) a + (⟨3, ![1, p, q]⟩ : Shape).size a ≤ (⟨3, ![n, p, q]⟩ : Shape).size a) :
    i ∈ (Rect.unit (s := ⟨3, ![n, p, q]⟩) ![x.val, 0, 0] (⟨3, ![1, p, q]⟩ : Shape).size inb).set ↔ (i 0 : Fin n) = x := by
  have h1 : (i 1).val < p := (i 1).isLt
  have h2 : (i 2).val < q := (i 2).isLt
  rw [Rect.mem_set_unit]
  constructor
  · intro h
    have a0 := h 0
    change x.val ≤ (i 0).val ∧ (i 0).val < x.val + 1 at a0
    exact Fin.ext (by show (i 0).val = x.val; omega)
  · intro h a
    have e0 : (i 0).val = x.val := congrArg Fin.val h
    match a with
    | ⟨0, _⟩ => show x.val ≤ (i 0).val ∧ (i 0).val < x.val + 1; omega
    | ⟨1, _⟩ => show 0 ≤ (i 1).val ∧ (i 1).val < 0 + p; omega
    | ⟨2, _⟩ => show 0 ≤ (i 2).val ∧ (i 2).val < 0 + q; omega

/-- The half a row of the result lies in. -/
def halfRow (i : S1024x2048.Idx) : Fin 2 := ⟨(i 0).val / 512, by have : (i 0).val < 1024 := (i 0).isLt; omega⟩
theorem keyo (i : S1024x2048.Idx) (k : Fin 2) : i ∈ (ro k).set ↔ halfRow i = k :=
  (mem_half i k).trans ⟨fun h => Fin.ext h, fun h => congrArg Fin.val h⟩

omit [FloatOps F] in
theorem bigSep_two (Φ : Fin 2 → sProp 𝕄) : bigSep Finset.univ Φ = two Φ := bigSep_univ_eq_bigSepL [0, 1] (by decide) (by decide) Φ
omit [FloatOps F] in
theorem bigSep_three (Φ : Fin 3 → sProp 𝕄) : bigSep Finset.univ Φ = three Φ := bigSep_univ_eq_bigSepL [0, 1, 2] (by decide) (by decide) Φ
omit [FloatOps F] in
theorem bigSep_six (Φ : Fin 3 → Fin 2 → sProp 𝕄) : (bigSep Finset.univ fun x : Fin 3 × Fin 2 => Φ x.1 x.2) = six Φ :=
  bigSep_univ_eq_bigSepL [(0, 0), (0, 1), (1, 0), (1, 1), (2, 0), (2, 1)] (by decide) (by decide) fun x : Fin 3 × Fin 2 => Φ x.1 x.2

theorem send_slots : wholeAny (F := F) c cc0_scratch0 ⊣⊢ six fun j k => iprop(∃ X, held c (sV j k) X) := by
  rw [← bigSep_six]
  exact ⟨whole_slots c cc0_scratch0 (fun x : Fin 3 × Fin 2 => r4 x.1 x.2) (fun i => (i 0, i 1)) key4,
    slots_whole c cc0_scratch0 (fun x : Fin 3 × Fin 2 => r4 x.1 x.2) (fun i => (i 0, i 1)) key4⟩
theorem recv_slots : wholeAny (F := F) c cc0_scratch1 ⊣⊢ six fun j k => iprop(∃ X, held c (rV j k) X) := by
  rw [← bigSep_six]
  exact ⟨whole_slots c cc0_scratch1 (fun x : Fin 3 × Fin 2 => r4 x.1 x.2) (fun i => (i 0, i 1)) key4,
    slots_whole c cc0_scratch1 (fun x : Fin 3 × Fin 2 => r4 x.1 x.2) (fun i => (i 0, i 1)) key4⟩
theorem own_slots : wholeAny (F := F) c cc0_scratch2 ⊣⊢ two fun k => iprop(∃ X, held c (oV k) X) := by
  rw [← bigSep_two]
  exact ⟨whole_slots c cc0_scratch2 r3x (fun i => i 0) fun i x => key3 i x _, slots_whole c cc0_scratch2 r3x (fun i => i 0) fun i x => key3 i x _⟩
theorem x_slots : wholeAny (F := F) c cc0_scratch3 ⊣⊢ two fun k => iprop(∃ X, held c (xtV k) X) := by
  rw [← bigSep_two]
  exact ⟨whole_slots c cc0_scratch3 r3x (fun i => i 0) fun i x => key3 i x _, slots_whole c cc0_scratch3 r3x (fun i => i 0) fun i x => key3 i x _⟩
theorem w_slots : wholeAny (F := F) c cc0_scratch4 ⊣⊢ two fun k => iprop(∃ X, held c (wtV k) X) := by
  rw [← bigSep_two]
  exact ⟨whole_slots c cc0_scratch4 r3w (fun i => i 0) fun i x => key3 i x _, slots_whole c cc0_scratch4 r3w (fun i => i 0) fun i x => key3 i x _⟩
theorem out_slots : wholeAny (F := F) c cc0_stg2_0 ⊢ two fun k => iprop(∃ X, held c (outV k) X) := by
  rw [← bigSep_two]
  exact whole_slots c cc0_stg2_0 ro halfRow keyo

/-- The scratch buffers held whole. -/
def scratchWhole : sProp 𝕄 :=
  iprop(wholeAny (F := F) c cc0_scratch0 ∗ wholeAny (F := F) c cc0_scratch1 ∗ wholeAny (F := F) c cc0_scratch2
    ∗ wholeAny (F := F) c cc0_scratch3 ∗ wholeAny (F := F) c cc0_scratch4)

/-- The scratch buffers are their slots; -/
theorem scratch_cut : scratchWhole (F := F) c ⊢ scratch c := by
  unfold scratchWhole scratch
  exact BIClass.sep_mono (send_slots c).1 (BIClass.sep_mono (recv_slots c).1 (BIClass.sep_mono (own_slots c).1 (BIClass.sep_mono (x_slots c).1 (w_slots c).1)))
/-- the slots are the scratch buffers. -/
theorem scratch_join : scratch c ⊢ scratchWhole (F := F) c := by
  unfold scratchWhole scratch
  exact BIClass.sep_mono (send_slots c).2 (BIClass.sep_mono (recv_slots c).2 (BIClass.sep_mono (own_slots c).2 (BIClass.sep_mono (x_slots c).2 (w_slots c).2)))

/-- A buffer held whole at the contents `X`. -/
abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

theorem zero1 : (![0] : Fin 1 → ℕ) = fun _ => 0 := funext fun a => by fin_cases a; rfl
theorem zero2 : (![0, 0] : Fin 2 → ℕ) = fun _ => 0 := funext fun a => by fin_cases a <;> rfl

omit [FloatOps F] in
theorem held_sx (X : S1.Idx → Elt F .f32) : held (F := F) c ((sxM : Memref sig .tc .smem S1 .f32).access r1) X = stg c cc0_stg0_0 X := held_all c cc0_stg0_0 _ zero1 _ X
omit [FloatOps F] in
theorem held_sw (X : S1.Idx → Elt F .f32) : held (F := F) c ((swM : Memref sig .tc .smem S1 .f32).access r1) X = stg c cc0_stg1_0 X := held_all c cc0_stg1_0 _ zero1 _ X
omit [FloatOps F] in
theorem held_out (X : S1024x2048.Idx → Elt F .f32) : held (F := F) c outAll X = stg c cc0_stg2_0 X := held_all c cc0_stg2_0 _ zero2 _ X

omit [FloatOps F] in
theorem stg_any (b : Ref sig .tc) (X : b.ty.Contents (Elt F)) : stg c b X ⊢ wholeAny (F := F) c b := by
  iintro ⟨%f, -, H⟩; iexists f; iexact H

end Cert.Exchange

end
-- ==== Proof.Point.lean ====
/- The kernel's one grid point, as the launch wants it: what the windows hold before and after,
   and the body's run (`Body`) fitted to that. -/
module

public import proofs.«01_k».proof.Proof.Slots
public import Idealize.ShloMosaic.Lib.Pipeline.Launch
public import Idealize.ShloMosaic.Lib.Pipeline.Kit
public import proofs.«01_k».proof.Proof.Gen.KernelIdeal.Points

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ)

/-! ## What the point is given and leaves -/

/-- The two scale factors as device `c` holds them. -/
def sxOf (c : Dev nD) : S1.Idx → Elt F .f32 := m ((c : Thread nD τ).loc main_arg2)
def swOf (c : Dev nD) : S1.Idx → Elt F .f32 := m ((c : Thread nD τ).loc main_arg3)

/-- Device `c`'s block of the result. -/
abbrev resultAt (c : Dev nD) : S1024x2048.Idx → Elt F .f32 := outAt m c (sxOf m c) (swOf m c)

/-- What device `c` starts from beside its scratch buffers: the exchange as all know it, its tokens, its fetches' semaphores, its arrays. -/
def start (c : Dev nD) : sProp 𝕄 := iprop((∃ K, world m K ∗ tokens c) ∗ fetchSems c ∗ arrays m c)

def Φ₀ (c : Dev nD) : sProp 𝕄 := iprop(start m c ∗ scratchWhole (F := F) c)
/-- What it has at the end: scratch buffers, semaphores at zero, arrays. -/
def Φ₁ (c : Dev nD) : sProp 𝕄 := iprop(scratchWhole (F := F) c ∗ fetchSems c ∗ hopSems c ∗ arrays m c)

def dats (_ : Fin 1) (c : Dev nD) : Dat τ (Elt F) Unit ℕ UU ℕ cfg0 c where
  A w := m ((cfg0.win w).arr.view.loc (c : Thread nD τ))
  after w _ := match w with
    | ⟨0, _⟩ => sxOf m c
    | ⟨1, _⟩ => swOf m c
    | ⟨2, _⟩ => resultAt m c
  Φ t := match t with
    | ⟨0, _⟩ => Φ₀ m c
    | ⟨_ + 1, _⟩ => Φ₁ m c
  q _ := fullShare
  owed t := match t with
    | ⟨0, _⟩ => owed c 9
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem one_index (i j : S1.Idx) : i = j := funext fun a => by
  match a with
  | ⟨0, _⟩ => exact Fin.ext (by have h1 : (i 0).val < 1 := (i 0).isLt; have h2 : (j 0).val < 1 := (j 0).isLt; show (i 0).val = (j 0).val; omega)

theorem before_sx (c : Dev nD) (d) : (dats m 0 c).before (0 : Fin 3) t0_0 d = sxOf m c := by
  unfold Dat.before; rw [if_pos (fetch0_0 t0_0)]
  exact funext fun i : S1.Idx => congrArg (sxOf m c) (one_index _ i)
theorem before_sw (c : Dev nD) (d) : (dats m 0 c).before (1 : Fin 3) t0_0 d = swOf m c := by
  unfold Dat.before; rw [if_pos (fetch0_1 t0_0)]
  exact funext fun i : S1.Idx => congrArg (swOf m c) (one_index _ i)

/-! ## The body at the point -/

def pointPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def pointPost (c : Dev nD) : sProp 𝕄 :=
  iprop(Φ₁ m c ∗ (dats m 0 c).owesAt () t0_0.succ
    ∗ stg c cc0_stg0_0 (sxOf m c) ∗ stg c cc0_stg1_0 (swOf m c) ∗ stg c cc0_stg2_0 (resultAt m c))

theorem owesAt_pre (c : Dev nD) : (dats m 0 c).owesAt () t0_0.castSucc ⊢ owing c 9 := by
  unfold Dat.owesAt Pipeline.owesWithin owing
  rw [show (dats m 0 c).owed t0_0.castSucc = owed c 9 from rfl]
  iintro ⟨%W, -, H⟩; iexists W; iexact H
theorem owesAt_post (c : Dev nD) : owing c 0 ⊢ (dats m 0 c).owesAt () t0_0.succ := by
  unfold Dat.owesAt Pipeline.owesWithin owing
  rw [show (dats m 0 c).owed t0_0.succ = owed c 0 from rfl]
  iintro ⟨%W, H⟩; iexists W
  isplitr; · ipureintro; exact fun _ _ => Or.inl trivial
  iexact H

theorem point_enter (c : Dev nD) : pointPre m c ⊢ iprop(∃ K, bodyPre m c K (sxOf m c) (swOf m c)) := by
  unfold pointPre Φ₀ start bodyPre
  simp only [before_sx, before_sw, held_sx, held_sw]
  iintro ⟨⟨⟨⟨%K, HW, HT⟩, HF, HA⟩, HS⟩, HO, ⟨%d0, H0⟩, ⟨%d1, H1⟩, ⟨%d2, H2⟩⟩
  iexists K
  isplitl [HW]; · iexact HW
  isplitl [HT]; · iexact HT
  isplitl [HS]; · iapply (scratch_cut (F := F) c); iexact HS
  isplitl [HF]; · iexact HF
  isplitl [HA]; · iexact HA
  isplitl [HO]; · iapply (owesAt_pre m c); iexact HO
  isplitl [H0]; · iexact H0
  isplitl [H1]; · iexact H1
  iapply (out_slots (F := F) c); iapply (stg_any (F := F) c cc0_stg2_0 _); iexact H2

theorem point_leave (c : Dev nD) : bodyPost m c (sxOf m c) (swOf m c) ⊢ pointPost m c := by
  unfold pointPost Φ₁ bodyPost
  rw [held_sx, held_sw, held_out]
  iintro ⟨HS, HF, HH, HA, HO, H0, H1, H2⟩
  isplitl [HS HF HH HA]
  · isplitl [HS]; · iapply (scratch_join c); iexact HS
    isplitl [HF]; · iexact HF
    isplitl [HH]; · iexact HH
    iexact HA
  isplitl [HO]; · iapply (owesAt_post m c); iexact HO
  isplitl [H0]; · iexact H0
  isplitl [H1]; · iexact H1
  iexact H2

/-- The launch's obligation on the body. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show pointPre m c ⊢ wp frame (wpE (defs₀ (F := F)) 𝒱₀ (c : Thread nD τ) none) Set.univ
    (cc0_body xM (Memref.isWhole_whole _) wM (Memref.isWhole_whole _) sxM (Memref.isWhole_whole _) swM (Memref.isWhole_whole _) outM (Memref.isWhole_whole _)
      sM (Memref.isWhole_whole _) rM (Memref.isWhole_whole _) oM (Memref.isWhole_whole _) xtM (Memref.isWhole_whole _) wtM (Memref.isWhole_whole _)
      cc0_scratch5 cc0_scratch6 cc0_scratch7 cc0_scratch8) (fun _ => pointPost m c)
  iintro H
  ihave H := (point_enter m c) $$ H
  icases H with ⟨%K, H⟩
  iapply (sound_body m c K (sxOf m c) (swOf m c) fun _ => pointPost m c)
  isplitl [H]; · iexact H
  iintro H
  iapply (point_leave m c); iexact H

end Cert.Exchange

end
-- ==== Proof.Deal.lean ====
/- Dealing out the exchange: the launch's element makes every cell's state and token, the cells'
   invariants are allocated for all devices at once, and each token goes to the device that pays with it. -/
module

public import proofs.«01_k».proof.Proof.Point

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The kernel's own semaphores -/

/-- The sixteen DMA semaphores that are no window's: six to send, six to receive, four for fetches. -/
abbrev osem : Fin 16 → SemLoc sig := fun i => .dma (⟨3 + i.val, by have := i.isLt; omega⟩ : Fin 19)

theorem ownSemFacts : Pipeline.OwnSemFacts cfg0.spec osem := by decide

omit [FloatOps F] in
theorem sep_regroup (P Q R : sProp 𝕄) : iprop((P ∗ Q) ∗ R) = iprop(P ∗ Q ∗ R) :=
  _root_.Idealize.SL.BI.sep_assoc.antisymm _root_.Idealize.SL.BI.sep_assoc'

omit [FloatOps F] in
/-- A family over the transfers' cells: the send cells, then the receive cells. -/
theorem bigSep_hops (Φ : Bool × Fin 3 × Fin 2 → sProp 𝕄) :
    bigSep Finset.univ Φ = iprop(six (fun j k => Φ (false, j, k)) ∗ six (fun j k => Φ (true, j, k))) := by
  rw [bigSep_univ_eq_bigSepL [(false, 0, 0), (false, 0, 1), (false, 1, 0), (false, 1, 1), (false, 2, 0), (false, 2, 1),
    (true, 0, 0), (true, 0, 1), (true, 1, 0), (true, 1, 1), (true, 2, 0), (true, 2, 1)] (by decide) (by decide) Φ]
  simp only [six, sep_regroup]
  rfl

omit [FloatOps F] in
/-- A family over a device's cells: the barrier cell first. -/
theorem bigSep_cells (Φ : CIx → sProp 𝕄) :
    bigSep Finset.univ Φ = iprop(Φ none ∗ six (fun j k => Φ (some (false, j, k))) ∗ six (fun j k => Φ (some (true, j, k)))) := by
  rw [← bigSep_hops fun x => Φ (some x), show (Finset.univ : Finset CIx) = insert none (Finset.univ.map ⟨some, Option.some_injective _⟩) by decide,
    BI.bigSep_insert (by decide), BI.bigSep_map]
  rfl

omit [FloatOps F] in
theorem ownSems0_eq (c : Dev nD) : (Pipeline.ownSems0 (Ix := Unit) (Name := ℕ) (U := UU) (Lvl := ℕ) (Val := Elt F) (τ := τ) osem c : sProp 𝕄)
    = iprop(six (fun j k => semVal (sendCell c j k) 0) ∗ six (fun j k => semVal (recvCell c j k) 0) ∗ fetchSems c) := by
  rw [Pipeline.ownSems0_eq_of_list c osem [0, 1, 2, 3, 4, 5, 6, 7, 8, 9, 10, 11, 12, 13, 14, 15] (by decide) (by decide)]
  unfold fetchSems
  simp only [six, two, sep_regroup]
  rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The semaphores at launch: each cell's counter, and the fetches' semaphores. -/
theorem sems_deal (c : Dev nD) :
    iprop(Pipeline.ownSems0 (Ix := Unit) (Name := ℕ) (U := UU) (Lvl := ℕ) (Val := Elt F) (τ := τ) osem c ∗ unscopedSems0 c)
      ⊢ (iprop((bigSep Finset.univ fun x : CIx => semVal (kcell (c, x)) 0) ∗ fetchSems c) : sProp 𝕄) := by
  rw [ownSems0_eq, unscopedSems0_eq, bigSep_cells]
  iintro ⟨⟨HS, HR, HF⟩, HB⟩
  isplitr [HF]
  · isplitl [HB]; · iexact HB
    isplitl [HS]; · iexact HS
    iexact HR
  iexact HF

omit [FloatOps F] in
/-- The semaphores at the end, back as the launch wants them. -/
theorem sems_return (c : Dev nD) :
    (iprop(hopSems c ∗ fetchSems c) : sProp 𝕄)
      ⊢ iprop(unscopedSems0 c ∗ Pipeline.ownSems0 (Ix := Unit) (Name := ℕ) (U := UU) (Lvl := ℕ) (Val := Elt F) (τ := τ) osem c) := by
  rw [ownSems0_eq, unscopedSems0_eq]
  unfold hopSems
  iintro ⟨⟨HB, HS, HR⟩, HF⟩
  isplitl [HB]; · iexact HB
  isplitl [HS]; · iexact HS
  isplitl [HR]; · iexact HR
  iexact HF

/-! ## The cells and their tokens as minted -/

theorem csem_injective : Function.Injective csem := by
  have h : ∀ a b : CIx, csem a = csem b → a = b := by decide
  exact fun a b => h a b
theorem kcell_injective : Function.Injective kcell := fun x y h =>
  Prod.ext (congrArg (fun g : GSem nD τ sig => g.1.1) h) (csem_injective (congrArg Prod.snd h))
def cells : Finset (GSem nD τ sig) := Finset.univ.map ⟨kcell, kcell_injective⟩

/-- A device's own cells' duties: the barrier's three, one of each transfer's cell. -/
abbrev DIx : Type := Fin 3 ⊕ (Bool × Fin 3 × Fin 2)
def dutyOf : DIx → CIx × Fin 3
  | .inl j => (none, j)
  | .inr x => (some x, 0)
theorem dutyOf_injective : Function.Injective dutyOf := by
  rintro (j | x) (j' | x') h
  · exact congrArg Sum.inl (congrArg Prod.snd h)
  · cases congrArg Prod.fst h
  · cases congrArg Prod.fst h
  · exact congrArg Sum.inr (Option.some.inj (congrArg Prod.fst h))
abbrev tokOf (y : Dev nD × DIx) : GSem nD τ sig × ℕ × Fin 3 := (kcell (y.1, (dutyOf y.2).1), 0, (dutyOf y.2).2)
theorem tokOf_injective : Function.Injective tokOf := fun y y' h => by
  have h1 := kcell_injective (congrArg (fun t : GSem nD τ sig × ℕ × Fin 3 => t.1) h)
  have h2 : (dutyOf y.2).2 = (dutyOf y'.2).2 := congrArg (fun t : GSem nD τ sig × ℕ × Fin 3 => t.2.2) h
  exact Prod.ext (congrArg (fun t : Dev nD × CIx => t.1) h1) (dutyOf_injective (Prod.ext (congrArg (fun t : Dev nD × CIx => t.2) h1) h2))
def mintedToks : Finset (GSem nD τ sig × ℕ × Fin 3) := Finset.univ.map ⟨tokOf, tokOf_injective⟩

/-- The launch element: the pipeline's cells, the exchange's, no local counter yet. -/
def u₀ : UU :=
  (initOf (Pipeline.cells cfgs cellOf_inj) (Pipeline.launchToks cfgs cellOf_inj), (initOf cells mintedToks, 1))

/-- The duty tokens of device `c`'s own cells. -/
def ownToks (c : Dev nD) : sProp 𝕄 :=
  iprop(three (fun j => dutyTok ER (barCell c) 0 j) ∗ six (fun j k => dutyTok ER (sendCell c j k) 0 0) ∗ six (fun j k => dutyTok ER (recvCell c j k) 0 0))
/-- The duty tokens device `c` pays with. -/
def payToks (c : Dev nD) : sProp 𝕄 :=
  iprop(three (fun j => dutyTok ER (barCell (fwd c j)) 0 (opp j)) ∗ six (fun j k => dutyTok ER (sendCell c j k) 0 0)
    ∗ six (fun j k => dutyTok ER (recvCell (fwd c j) j k) 0 0))

/-- What the element deals device `c`. -/
def dealt (c : Dev nD) : sProp 𝕄 :=
  iprop((bigSep Finset.univ fun x : CIx => roundState ER (sched m) (kcell (c, x)) 0)
    ∗ ((bigSep Finset.univ fun x : CIx => atPos ER (kcell (c, x)) 0 ∅ 0) ∗ (bigSep Finset.univ fun x : CIx => reached ER (kcell (c, x)) 0)) ∗ ownToks c)

theorem deal_cells : BI.own (ER (F := F) (initOf cells mintedToks)) ⊢ (|==> bigSep Finset.univ (dealt m) : sProp 𝕄) := by
  have hX (Φ : GSem nD τ sig → sProp 𝕄) : bigSep cells Φ = bigSep Finset.univ fun c : Dev nD => bigSep Finset.univ fun x : CIx => Φ (kcell (c, x)) := by
    unfold cells; rw [BI.bigSep_map, bigSep_univ_prod]; rfl
  have hT : bigSep mintedToks (fun x => (dutyTok ER x.1 x.2.1 x.2.2 : sProp 𝕄)) = bigSep Finset.univ fun c : Dev nD => ownToks c := by
    unfold mintedToks; rw [BI.bigSep_map, bigSep_univ_prod]
    exact bigSep_congr fun c _ => by unfold ownToks; rw [bigSep_univ_sum, bigSep_hops, bigSep_three]; rfl
  iintro HX
  imod (Rounds.fund ER (sched m) cells mintedToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat']; · iexact Hat'
    iexact Hr'
  iexact Htok'

/-! ## Allocating the invariants and passing the tokens round -/

/-- What is common knowledge but for the levels. -/
def records (K : Dev nD × CIx → ℕ) : sProp 𝕄 :=
  iprop((bigSep Finset.univ fun x : Dev nD × CIx => cellInv ER (sched m) (K x) (kcell x)) ∗ bigSep Finset.univ fun x : Dev nD × CIx => reached ER (kcell x) 0)
instance records_persistent (K : Dev nD × CIx → ℕ) : BI.Persistent (records m K) := by unfold records; infer_instance

/-- What device `c` holds of the exchange: its positions and the tokens it pays with. -/
def holds (c : Dev nD) : sProp 𝕄 := iprop((bigSep Finset.univ fun x : CIx => atPos ER (kcell (c, x)) 0 ∅ 0) ∗ payToks c)

/-- What device `c` is handed for its launch. -/
def handed (c : Dev nD) : sProp 𝕄 := iprop((∃ K, records m K ∗ holds c) ∗ fetchSems c)

theorem alloc_cells (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun x : CIx => iprop(∃ κ : ℕ, cellInv ER (sched m) κ (kcell (c, x))))
          ∗ (bigSep Finset.univ fun x : CIx => atPos ER (kcell (c, x)) 0 ∅ 0) ∗ (bigSep Finset.univ fun x : CIx => reached ER (kcell (c, x)) 0) ∗ ownToks c ∗ fetchSems c) := by
  unfold dealt
  iintro ⟨Hos, Hus, Hst, ⟨Hat, Hr⟩, Htok⟩
  ihave Hv := (sems_deal (F := F) c) $$ [Hos Hus]
  · isplitl [Hos]; · iexact Hos
    iexact Hus
  icases Hv with ⟨Hv, Hf⟩
  imod (show iprop((bigSep Finset.univ fun x : CIx => semVal (kcell (c, x)) 0) ∗ bigSep Finset.univ fun x : CIx => roundState ER (sched m) (kcell (c, x)) 0)
      ⊢ (|={Set.univ}=> bigSep Finset.univ fun x : CIx => iprop(∃ κ : ℕ, cellInv ER (sched m) κ (kcell (c, x))) : sProp 𝕄) from by
        rw [← bigSep_sep']
        exact (bigSep_mono fun x _ => (Rounds.body_intro ER (sched m) (kcell (c, x))).trans inv_alloc).trans (bigSep_fupd _ _)) $$ [Hv Hst] with Hinv
  · isplitl [Hv]; · iexact Hv
    iexact Hst
  imodintro
  isplitl [Hinv]; · iexact Hinv
  isplitl [Hat]; · iexact Hat
  isplitl [Hr]; · iexact Hr
  isplitl [Htok]; · iexact Htok
  iexact Hf

omit [FloatOps F] in
/-- Every device's cells' tokens, each passed to the device that pays with it. -/
theorem pass_toks : (bigSep Finset.univ fun c : Dev nD => (ownToks c : sProp 𝕄)) ⊢ bigSep Finset.univ fun c : Dev nD => payToks c := by
  have hb (j : Fin 3) : (bigSep Finset.univ fun c : Dev nD => (dutyTok ER (barCell c) 0 (opp j) : sProp 𝕄)) = bigSep Finset.univ fun c : Dev nD => dutyTok ER (barCell (fwd c j)) 0 (opp j) :=
    bigSep_univ_equiv (turn j) fun c : Dev nD => (dutyTok ER (barCell c) 0 (opp j) : sProp 𝕄)
  have hr (j : Fin 3) (k : Fin 2) : (bigSep Finset.univ fun c : Dev nD => (dutyTok ER (recvCell c j k) 0 0 : sProp 𝕄)) = bigSep Finset.univ fun c : Dev nD => dutyTok ER (recvCell (fwd c j) j k) 0 0 :=
    bigSep_univ_equiv (turn j) fun c : Dev nD => (dutyTok ER (recvCell c j k) 0 0 : sProp 𝕄)
  unfold ownToks payToks
  simp only [three, six, bigSep_sep', ← hb, ← hr]
  iintro ⟨⟨H0, H1, H2⟩, HS, HR⟩
  isplitl [H0 H1 H2]
  · isplitl [H2]; · iexact H2
    isplitl [H1]; · iexact H1
    iexact H0
  isplitl [HS]; · iexact HS
  iexact HR

/-- Knowledge common to all joined to each one's holdings. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem hand_out :
    (bigSep Finset.univ fun c : Dev nD => iprop((bigSep Finset.univ fun x : CIx => iprop(∃ κ : ℕ, cellInv ER (sched m) κ (kcell (c, x))))
          ∗ (bigSep Finset.univ fun x : CIx => atPos ER (kcell (c, x)) 0 ∅ 0) ∗ (bigSep Finset.univ fun x : CIx => reached ER (kcell (c, x)) 0) ∗ ownToks c ∗ fetchSems c) : sProp 𝕄)
      ⊢ bigSep Finset.univ (handed m) := by
  rw [bigSep_sep', bigSep_sep', bigSep_sep', bigSep_sep', ← bigSep_univ_prod (fun x : Dev nD × CIx => iprop(∃ κ : ℕ, cellInv ER (sched m) κ (kcell x))),
    ← bigSep_univ_prod (fun x : Dev nD × CIx => (reached ER (kcell x) 0 : sProp 𝕄))]
  iintro ⟨HI, Hat, #HR, Htok, Hf⟩
  ihave HK := (BI.bigSep_exists_pi Finset.univ (fun (x : Dev nD × CIx) (κ : ℕ) => (cellInv ER (sched m) κ (kcell x) : sProp 𝕄))) $$ HI
  icases HK with ⟨%K, #HI⟩
  ihave Htk := (pass_toks (F := F)) $$ Htok
  iapply (bigSep_with (R := records m K) (Φ := fun c => iprop(holds c ∗ fetchSems c)) fun c _ => show iprop(records m K ∗ holds c ∗ fetchSems c) ⊢ handed m c from by
    unfold handed
    iintro ⟨HR, Hh, Hf⟩
    isplitr [Hf]
    · iexists K
      isplitl [HR]; · iexact HR
      iexact Hh
    iexact Hf)
  isplitr
  · unfold records; isplitl; · iexact HI
    iexact HR
  · unfold holds
    simp only [bigSep_sep']
    isplitr [Hf]
    · isplitl [Hat]; · iexact Hat
      iexact Htk
    iexact Hf

/-- All devices' semaphores and dealings at once: the invariants allocated, each device handed its part. -/
theorem deal_all : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (handed m) :=
  ((bigSep_mono fun c _ => alloc_cells m c).trans (bigSep_fupd _ _)).trans (BI.fupd_mono (hand_out m))

/-! ## The credit of the waits -/

omit [FloatOps F] in
/-- One payment of every device, `j + 1` places on: the credit of one payment for each. -/
theorem cred_step (c : Dev nD) (n : ℕ) (j : Fin 3) (sm : SemLoc sig) (h : ∀ d, dueCell d n = ((fwd d j : Thread nD τ), sm)) :
    (Pipeline.launchCred (fun d => owed d (n + 1)) c : sProp 𝕄) ⊢ iprop(Pipeline.launchCred (fun d => owed d n) c ∗ cred (tallyAt ((c : Thread nD τ), sm) () (dueAmt n))) := by
  have e : (fun d : Dev nD => owed d (n + 1)) = fun d => owed d n + tallyAt ((fwd d j : Thread nD τ), sm) () (dueAmt n) := funext fun d => by rw [← h d]; rfl
  rw [e, Pipeline.launchCred_add]
  exact sep_mono_right (Pipeline.launchCred_tallyAt sm (fun d => fwd d j) (fun d => fwd d (opp j)) (fun d => opp_fwd d j) (fun d => fwd_opp d j) () (dueAmt n) c)

omit [FloatOps F] in
theorem creds (c : Dev nD) :
    (Pipeline.launchCred (fun d => owed d 9) c : sProp 𝕄) ⊢ iprop(cred (tallyAt (barCell c) () 3) ∗ six (fun j k => cred (tallyAt (recvCell c j k) () N))) := by
  have hb : (iprop(cred (tallyAt (barCell c) () 1) ∗ cred (tallyAt (barCell c) () 1) ∗ cred (tallyAt (barCell c) () 1)) : sProp 𝕄) ⊢ cred (tallyAt (barCell c) () 3) := by
    refine BI.Entails.trans (sep_mono_right (cred_add _ _).2) (BI.Entails.trans (cred_add _ _).2 (Entails.of_eq (congrArg cred ?_)))
    rw [tallyAt_add, tallyAt_add]
  iintro H
  ihave ⟨H, B0⟩ := (cred_step (F := F) c 8 0 (.reg barS) fun _ => rfl) $$ H
  ihave ⟨H, B1⟩ := (cred_step (F := F) c 7 1 (.reg barS) fun _ => rfl) $$ H
  ihave ⟨H, B2⟩ := (cred_step (F := F) c 6 2 (.reg barS) fun _ => rfl) $$ H
  ihave ⟨H, R00⟩ := (cred_step (F := F) c 5 0 (.dma (recvS 0 0)) fun _ => rfl) $$ H
  ihave ⟨H, R01⟩ := (cred_step (F := F) c 4 0 (.dma (recvS 0 1)) fun _ => rfl) $$ H
  ihave ⟨H, R10⟩ := (cred_step (F := F) c 3 1 (.dma (recvS 1 0)) fun _ => rfl) $$ H
  ihave ⟨H, R11⟩ := (cred_step (F := F) c 2 1 (.dma (recvS 1 1)) fun _ => rfl) $$ H
  ihave ⟨H, R20⟩ := (cred_step (F := F) c 1 2 (.dma (recvS 2 0)) fun _ => rfl) $$ H
  ihave ⟨H, R21⟩ := (cred_step (F := F) c 0 2 (.dma (recvS 2 1)) fun _ => rfl) $$ H
  isplitl [B0 B1 B2]
  · iapply hb
    isplitl [B0]; · iexact B0
    isplitl [B1]; · iexact B1
    iexact B2
  isplitl [R00]; · iexact R00
  isplitl [R01]; · iexact R01
  isplitl [R10]; · iexact R10
  isplitl [R11]; · iexact R11
  isplitl [R20]; · iexact R20
  iexact R21

end Cert.Exchange

end
-- ==== Proof.Run.lean ====
/- The run of the whole kernel: on four devices, from any memory, every fair execution ends, each device's
   result array at its block of the product, the arguments as they were, every semaphore at zero. -/
module

public import proofs.«01_k».proof.Proof.Deal
public import Idealize.ShloMosaic.Lib.Pipeline.CollectiveSegs
public import Idealize.ShloMosaic.Lib.Pipeline.ValueKit

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ UU ℕ

variable (m : (ℓ : Loc nD τ sig) → Buf (Elt F) ℓ) (ρ : Dev nD → PrngReg)

/-- The state at launch: any contents, every semaphore at zero. -/
def s₀ : MemSt nD τ sig (Elt F) := ⟨m, fun _ => 0, ρ⟩

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owed d 9) c ∗ prngReg c (ρ c) ∗ handed m c)
      ⊢ |={Set.univ}=> iprop(start m c ∗ emp) := by
  rw [Pipeline.unscopedRestP_none, unscopedRest0_eq]
  iintro ⟨⟨Hx, Hw⟩, Hlev, Hcr, -, HG⟩
  ihave ⟨HB, HR⟩ := (creds (F := F) c) $$ Hcr
  imodintro
  unfold handed records holds payToks
  icases HG with ⟨⟨%K, ⟨HI, HRe⟩, Hat, HT0, HT1, HT2⟩, HF⟩
  ihave ⟨HA0, HA1, HA2⟩ := (Entails.of_eq (bigSep_cells (F := F) fun x => (atPos ER (kcell (c, x)) 0 ∅ 0 : sProp 𝕄))) $$ Hat
  unfold start world tokens arrays
  isplitl
  · isplitr [HF Hx Hw]
    · iexists K
      isplitl [HI HRe Hlev]
      · isplitl [HI]; · iexact HI
        isplitl [HRe]; · iexact HRe
        iexact Hlev
      isplitl [HT0]; · iexact HT0
      isplitl [HT1]; · iexact HT1
      isplitl [HT2]; · iexact HT2
      isplitl [HA0]; · iexact HA0
      isplitl [HA1]; · iexact HA1
      isplitl [HA2]; · iexact HA2
      isplitl [HB]; · iexact HB
      iexact HR
    isplitl [HF]; · iexact HF
    isplitl [Hx]
    · unfold xAt; iapply (pointsTo_share (PosShare.mem_left_op_right fullShare)).1; iexact Hx
    unfold wAt; iapply (pointsTo_share (PosShare.mem_left_op_right fullShare)).1; iexact Hw
  iempintro

theorem scratch_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratchWhole
  iintro ⟨Hs, -, Hr⟩
  isplitl [Hs]; · iexact Hs
  iexact Hr

/-- What a device keeps of the kernel's end: its barrier semaphore at zero, its arrays. -/
def kept (c : Dev nD) : sProp 𝕄 := iprop(unscopedSems0 c ∗ arrays m c)

theorem scratch_exit (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = Φ₁ m c from rfl, scopedRest0_eq]
  unfold Φ₁ kept scratchWhole
  iintro ⟨Hr, HF, HH, HA⟩
  ihave ⟨HU, HO⟩ := (sems_return (F := F) c) $$ [HF HH]
  · isplitl [HH]; · iexact HH
    iexact HF
  isplitl [HU HA]
  · isplitl [HU]; · iexact HU
    iexact HA
  isplitl [HO]; · iexact HO
  iexact Hr

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_local c _ (by revert w s; decide) 9
    · exact mayWait_local c _ (by revert w s; decide) 0

/-- What is read off at the end beside the windows' arrays. -/
def Left (c : Dev nD) (s : MemSt nD τ sig (Elt F)) : Prop :=
  (∀ sm : SemLoc sig, sm.isScoped .tc = false → s.sem ((c : Thread nD τ), sm) = 0)
    ∧ s.mem ((c : Thread nD τ).loc main_arg0) = m ((c : Thread nD τ).loc main_arg0)
    ∧ s.mem ((c : Thread nD τ).loc main_arg1) = m ((c : Thread nD τ).loc main_arg1)

theorem read_left (c : Dev nD) (s' : Phys nD τ sig (Elt F)) :
    iprop(kept m c ∗ emp ∗ SI s') ⊢ (|={Set.univ}=> iprop(⌜Left m c s'.mem⌝ ∗ SI s') : sProp 𝕄) := by
  unfold kept arrays xAt wAt
  iintro ⟨⟨HU, HX, HW⟩, -, HSI⟩
  ihave HX := (pointsTo_share (PosShare.mem_left_op_right fullShare)).2 $$ HX
  ihave HW := (pointsTo_share (PosShare.mem_left_op_right fullShare)).2 $$ HW
  imod (Pipeline.unscopedSems0_read (X := unscopedSems0 c) (c := c) fupd_intro s') $$ [HU HSI] with ⟨%hs, HSI⟩
  · isplitl [HU] <;> iassumption
  icombine HSI HX gives %hx
  icombine HSI HW gives %hw
  imodintro
  isplitr; · ipureintro; exact ⟨hs, Buf.eq_of_forall_mem_univ hx, Buf.eq_of_forall_mem_univ hw⟩
  iexact HSI

theorem final_in (c : Dev nD) (w : Fin cfg0.W) (hw : (cfg0.win w).isOut = false) :
    (dats m 0 c).arrAt w cfg0.N = m ((cfg0.win w).arr.view.loc (c : Thread nD τ)) := (dats m 0 c).arrAt_in w hw _

theorem final_out (c : Dev nD) : (dats m 0 c).arrAt (2 : Fin 3) cfg0.N = resultAt m c :=
  (dats m 0 c).arrAt_eq_of_after_last (2 : Fin 3) t0_0 (by decide +kernel) (resultAt m c) fun j => rfl

/-- How a run of the kernel ends: on every device the result and the arguments. -/
def Ends (s : MemSt nD τ sig (Elt F)) : Prop := ∀ c : Dev nD,
  s.mem ((c : Thread nD τ).loc main_v1) = resultAt m c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)

/-- From any memory with every semaphore at zero, every weakly fair execution of the four devices' programs ends, each
    device's result array at its block, the arguments as they were, every semaphore at zero. -/
theorem run_main : θ_run defs (onTc (τ := τ) (main (F := F))) (s₀ m ρ) (fun r => Ends m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => owed d 9) (howed₀ := fun _ => rfl) (howedN := fun _ => rfl)
    (L := L) (lv := lv) (hL := L_of_ne) (hwaits := waits m)
    (G := dealt m) (G' := handed m) (u₀ := u₀)
    (hu₀ := by
      unfold u₀
      iintro Hu
      ihave ⟨HP, HX⟩ := (ownU_pair _ _) $$ Hu
      ihave ⟨HX, -⟩ := (own_pair_emb embR _ _) $$ HX
      imod (deal_cells m) $$ HX with HG
      imodintro
      isplitl [HP]; · iexact HP
      iexact HG)
    (hglob := deal_all m)
    (hA := fun _ _ => rfl) (hpf := fun _ k => k.elim0)
    (X := start m) (Y := kept m) (Z := fun _ => iprop(emp))
    (hX := start_intro m ρ) (hin := scratch_intro m) (hout := scratch_exit m)
    (QY := Left m) (hY := read_left m)
    (hQ := fun _ h hs => ⟨fun c => ⟨((h c).1 (2 : Fin 3)).trans (final_out m c), (h c).2.2.2.1, (h c).2.2.2.2,
      ((h c).1 (0 : Fin 3)).trans (final_in m c 0 rfl), ((h c).1 (1 : Fin 3)).trans (final_in m c 1 rfl)⟩, sem_eq_zero hs fun c => (h c).2.2.1⟩)

end Cert.Exchange

end
-- ==== Proof.Value.lean ====
/- What a device's block of the result is over the extended reals: the matching rows of the whole product,
   scaled. A block's row is a sum over four products, one for each device's columns of `x`; together they are the
   sum over all columns. -/
module

public import proofs.«01_k».proof.Proof.Point
public import Idealize.ShloMosaic.PureOps.Ideal
public import Idealize.ShloMosaic.PureOps.Ideal.Laws
public import Idealize.ShloMosaic.Lib.MatmulPlain
public import Idealize.ShloMosaic.Lib.Layout

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open scoped BigOperators

/-! ## What a fetch reads -/

section Fetched
variable {F : FTy → Type} [FloatOps F] (m : (ℓ : Loc nD τ sig) → Buf (Elt F) ℓ)

/-- Row `a` of half `k` of the rows of `x` that belong to the device `h` places on. -/
def xRow (c : Dev nD) (h : Fin 4) (k : Fin 2) (a : Fin 512) : Fin 4096 :=
  ⟨1024 * ((c.val + h.val) % 4) + 512 * k.val + a.val, by have := k.isLt; have := a.isLt; have := Nat.mod_lt (c.val + h.val) (show 0 < 4 by decide); omega⟩
/-- Row `a` of the weights that go with the columns of the device `h` places back. -/
def wRow (c : Dev nD) (h : Fin 4) (a : Fin 1024) : Fin 4096 :=
  ⟨1024 * ((c.val + 4 - h.val) % 4) + a.val, by have := a.isLt; have := Nat.mod_lt (c.val + 4 - h.val) (show 0 < 4 by decide); omega⟩

theorem xRows_apply (c : Dev nD) (h : Fin 4) (k : Fin 2) (a : Fin 512) (b : Fin 1024) :
    xRows m c h k (ix2 a b) = m ((c : Thread nD τ).loc main_arg0) (ix2 (xRow c h k a) b : S4096x1024.Idx) := by
  show m ((c : Thread nD τ).loc main_arg0) ((Rect.unit (s := S4096x1024) (k0_off1 c (BitVec.ofNat 32 h.val) (BitVec.ofNat 32 (512 * k.val))) S512x1024.size (k0_off1_inb c h k)).emb (ix2 a b)) = _
  refine congrArg (m ((c : Thread nD τ).loc main_arg0)) (funext fun x => Fin.ext ?_)
  have e := congrFun (k0_off1_eq c h k) x
  match x with
  | ⟨0, _⟩ =>
    show k0_off1 c (BitVec.ofNat 32 h.val) (BitVec.ofNat 32 (512 * k.val)) 0 + 1 * a.val = _
    rw [show k0_off1 c (BitVec.ofNat 32 h.val) (BitVec.ofNat 32 (512 * k.val)) 0 = 1024 * ((c.val + h.val) % 4) + 512 * k.val from e, Nat.one_mul]
    rfl
  | ⟨1, _⟩ =>
    show k0_off1 c (BitVec.ofNat 32 h.val) (BitVec.ofNat 32 (512 * k.val)) 1 + 1 * b.val = _
    rw [show k0_off1 c (BitVec.ofNat 32 h.val) (BitVec.ofNat 32 (512 * k.val)) 1 = 0 from e, Nat.one_mul, Nat.zero_add]

theorem wRows_apply (c : Dev nD) (h : Fin 4) (a : Fin 1024) (b : Fin 2048) :
    wRows m c h (ix2 a b) = m ((c : Thread nD τ).loc main_arg1) (ix2 (wRow c h a) b : S4096x2048.Idx) := by
  show m ((c : Thread nD τ).loc main_arg1) ((Rect.unit (s := S4096x2048) (k0_off2 c (BitVec.ofNat 32 h.val)) S1024x2048.size (k0_off2_inb c h)).emb (ix2 a b)) = _
  refine congrArg (m ((c : Thread nD τ).loc main_arg1)) (funext fun x => Fin.ext ?_)
  have e := congrFun (k0_off2_eq c h) x
  match x with
  | ⟨0, _⟩ =>
    show k0_off2 c (BitVec.ofNat 32 h.val) 0 + 1 * a.val = _
    rw [show k0_off2 c (BitVec.ofNat 32 h.val) 0 = 1024 * ((c.val + 4 - h.val) % 4) from e, Nat.one_mul]
    rfl
  | ⟨1, _⟩ =>
    show k0_off2 c (BitVec.ofNat 32 h.val) 1 + 1 * b.val = _
    rw [show k0_off2 c (BitVec.ofNat 32 h.val) 1 = 0 from e, Nat.one_mul, Nat.zero_add]
end Fetched

/-! ## The products over the extended reals -/

/-- A block laid into a slot with unit axes in front and taken out again is the block. -/
theorem cast_inSlot {s s' : Shape} {A : Type} (h : s'.numel = s.numel) (h' : s.ShapeCasts s') (w : s'.Idx → A) :
    shapeCast s' (inSlot h w) h' = w := funext fun j => congrArg w ((Shape.reshapeEquiv h).symm_apply_apply j)

theorem cast_cast {s t u : Shape} {A : Type} (v : s.Idx → A) (h : s.ShapeCasts t) (h' : t.ShapeCasts u) (h'' : s.ShapeCasts u) :
    shapeCast u (shapeCast t v h) h' = shapeCast u v h'' := funext fun j => congrArg v (Shape.reshapeEquiv_reshapeEquiv _ _ j)
theorem cast_same {s : Shape} {A : Type} (v : s.Idx → A) (h : s.ShapeCasts s) : shapeCast s v h = v :=
  funext fun j => congrArg v (Shape.reshapeEquiv_self _ j)

variable (m : (ℓ : Loc nD τ sig) → Buf (Elt Ideal) ℓ)

/-- An element of the product of 512 rows of activations with one block of weights. -/
def part (X : S512x1024.Idx → EReal) (W : S1024x2048.Idx → EReal) (a : Fin 512) (b : Fin 2048) : EReal :=
  ∑ q : Fin 1024, X (ix2 a q) * W (ix2 q b)

theorem product_apply (X : S512x1024.Idx → EReal) (W : S1024x2048.Idx → EReal) (a : Fin 512) (b : Fin 2048) :
    matmul (F := Ideal) (φ₁ := .fp8e5m2) (φ₂ := .fp8e5m2) dot_S512x1024_S1024x2048_S512x2048_1_0_0_1_n_n none X W (constant S512x2048 .f32 0x00000000#32) (ix2 a b) = part X W a b := by
  refine (Ideal.matmul_plain_apply (M := 512) (K := 1024) (N := 2048) (φ₁ := .fp8e5m2) (φ₂ := .fp8e5m2) none X W _ a b).trans ?_
  show Ideal.ofBits .f32 0x00000000#32 + _ = _
  rw [Ideal.ofBits_zero_f32, zero_add]
  rfl

theorem weights_ideal (c : Dev nD) (h : Fin 4) : weights m c h = wRows m c h :=
  cast_inSlot (A := EReal) sqw shapeCasts_S1x1024x2048_S1024x2048 (wRows m c h)

theorem own_ideal (c : Dev nD) (k : Fin 2) : shapeCast S512x1024 (ownRows m c k) shapeCasts_S1x512x1024_S512x1024 = xRows m c 0 k :=
  (cast_cast (shapeCast S512x1024 (inSlot sqx (xRows m c 0 k)) shapeCasts_S1x512x1024_S512x1024) _ _ rfl).trans
    ((cast_same _ _).trans (cast_inSlot _ _ _))
theorem sent_ideal (c : Dev nD) (j : Fin 3) (k : Fin 2) :
    shapeCast S512x1024 (sent m c j k) shapeCasts_S1x1x512x1024_S512x1024 = xRows m c j.succ k :=
  (cast_cast (shapeCast S512x1024 (inSlot sqx (xRows m c j.succ k)) shapeCasts_S1x512x1024_S512x1024) _ _ rfl).trans
    ((cast_same _ _).trans (cast_inSlot _ _ _))

theorem first_apply (c : Dev nD) (k : Fin 2) (a : Fin 512) (b : Fin 2048) :
    k0_pay13 (weights m c 0) (ownRows m c k) (ix2 a b) = part (xRows m c 0 k) (wRows m c 0) a b := by
  unfold k0_pay13
  rw [own_ideal, weights_ideal]
  exact product_apply _ _ a b
theorem hop_apply (c : Dev nD) (k : Fin 2) (j : Fin 3) (A : S512x2048.Idx → EReal) (a : Fin 512) (b : Fin 2048) :
    addHop m c k j A (ix2 a b) = A (ix2 a b) + part (xRows m (fwd c (opp j)) j.succ k) (wRows m c j.succ) a b := by
  unfold addHop k0_pay15
  rw [sent_ideal, weights_ideal, cast_same]
  exact congrArg (A (ix2 a b) + ·) (product_apply _ _ a b)

/-! ## The whole sum from its four parts -/

/-- A sum over all columns, device by device. -/
theorem sum_by_device (f : Fin 4096 → EReal) :
    ∑ q : Fin 4096, f q = ∑ d : Fin 4, ∑ q : Fin 1024, f ⟨1024 * d.val + q.val, by have := d.isLt; have := q.isLt; omega⟩ := by
  rw [← Equiv.sum_comp (finProdFinEquiv (m := 4) (n := 1024)) f, Fintype.sum_prod_type]
  exact Finset.sum_congr rfl fun d _ => Finset.sum_congr rfl fun q _ => congrArg f (Fin.ext (Nat.add_comm _ _))

/-- Going round from any device meets each once. -/
theorem sum_round (c : Dev nD) (g : Dev nD → EReal) :
    g c + g (fwd c (opp 0)) + g (fwd c (opp 1)) + g (fwd c (opp 2)) = ∑ d : Fin 4, g d := by
  rw [Fin.sum_univ_four]
  match c with
  | 0 => show g 0 + g 3 + g 2 + g 1 = _; ac_rfl
  | 1 => show g 1 + g 0 + g 3 + g 2 = _; ac_rfl
  | 2 => show g 2 + g 1 + g 0 + g 3 = _; ac_rfl
  | 3 => show g 3 + g 2 + g 1 + g 0 = _; ac_rfl

/-! ## The result -/

section Whole
variable {m}
variable {X : (⟨2, ![4096, 4096]⟩ : Shape).Idx → EReal} {W : (⟨2, ![4096, 2048]⟩ : Shape).Idx → EReal}

/-- Row `a` of half `k` of device `c`'s rows. -/
def row (c : Dev nD) (k : Fin 2) (a : Fin 512) : Fin 4096 :=
  ⟨1024 * c.val + 512 * k.val + a.val, by have := k.isLt; have := a.isLt; have : c.val < 4 := c.isLt; omega⟩
/-- Column `q` of device `d`'s columns. -/
def col (d : Dev nD) (q : Fin 1024) : Fin 4096 := ⟨1024 * d.val + q.val, by have := q.isLt; have : d.val < 4 := d.isLt; omega⟩

/-- The part of a row's product that comes from device `d`'s columns. -/
def share (X : (⟨2, ![4096, 4096]⟩ : Shape).Idx → EReal) (W : (⟨2, ![4096, 2048]⟩ : Shape).Idx → EReal) (R : Fin 4096) (b : Fin 2048) (d : Dev nD) : EReal :=
  ∑ q : Fin 1024, X (ix2 R (col d q)) * W (ix2 (col d q) b)

theorem part_share (hX : ∀ c : Dev nD, m ((c : Thread nD τ).loc main_arg0) = Layout.block ⟨2, ![4096, 1024]⟩ ⟨2, ![4096, 4096]⟩ 1 4 c X)
    (hW : ∀ c : Dev nD, m ((c : Thread nD τ).loc main_arg1) = W)
    (c d : Dev nD) (h : Fin 4) (e1 : (d.val + h.val) % 4 = c.val) (e2 : (c.val + 4 - h.val) % 4 = d.val) (k : Fin 2) (a : Fin 512) (b : Fin 2048) :
    part (xRows m d h k) (wRows m c h) a b = share X W (row c k a) b d := by
  unfold part share
  refine Finset.sum_congr rfl fun q _ => ?_
  rw [xRows_apply, wRows_apply, hX, hW]
  refine congrArg₂ (· * ·) ?_ ?_
  · refine congrArg X (funext fun x => Fin.ext ?_)
    match x with
    | ⟨0, _⟩ => show 1024 * ((d.val + h.val) % 4) + 512 * k.val + a.val = 1024 * c.val + 512 * k.val + a.val; rw [e1]
    | ⟨1, _⟩ => show d.val * 1024 + q.val = 1024 * d.val + q.val; omega
  · refine congrArg W (funext fun x => Fin.ext ?_)
    match x with
    | ⟨0, _⟩ => show 1024 * ((c.val + 4 - h.val) % 4) + q.val = 1024 * d.val + q.val; rw [e2]
    | ⟨1, _⟩ => rfl

/-- Half `k` of device `c`'s rows, before scaling: rows of the whole product. -/
theorem rowsAcc_apply (hX : ∀ c : Dev nD, m ((c : Thread nD τ).loc main_arg0) = Layout.block ⟨2, ![4096, 1024]⟩ ⟨2, ![4096, 4096]⟩ 1 4 c X)
    (hW : ∀ c : Dev nD, m ((c : Thread nD τ).loc main_arg1) = W) (c : Dev nD) (k : Fin 2) (a : Fin 512) (b : Fin 2048) :
    rowsAcc m c k (ix2 a b) = ∑ q : Fin 4096, X (ix2 (row c k a) q) * W (ix2 q b) := by
  have e1 : ∀ (c : Dev nD) (j : Fin 3), ((fwd c (opp j)).val + j.succ.val) % 4 = c.val ∧ (c.val + 4 - j.succ.val) % 4 = (fwd c (opp j)).val := by decide
  have e0 : ∀ c : Dev nD, (c.val + (0 : Fin 4).val) % 4 = c.val ∧ (c.val + 4 - (0 : Fin 4).val) % 4 = c.val := by decide
  unfold rowsAcc
  rw [hop_apply, hop_apply, hop_apply, first_apply, part_share hX hW c c 0 (e0 c).1 (e0 c).2]
  simp only [fun j : Fin 3 => part_share hX hW c (fwd c (opp j)) j.succ (e1 c j).1 (e1 c j).2 k a b]
  rw [sum_round c (share X W (row c k a) b), sum_by_device]
  rfl

/-- Device `c`'s block of the result: its rows of the whole product, scaled. -/
theorem resultAt_apply (hX : ∀ c : Dev nD, m ((c : Thread nD τ).loc main_arg0) = Layout.block ⟨2, ![4096, 1024]⟩ ⟨2, ![4096, 4096]⟩ 1 4 c X)
    (hW : ∀ c : Dev nD, m ((c : Thread nD τ).loc main_arg1) = W) (c : Dev nD) (i : S1024x2048.Idx) (R : Fin 4096) (hR : R.val = 1024 * c.val + (i 0).val) (z : S1.Idx) :
    resultAt m c i = (∑ q : Fin 4096, X (ix2 R q) * W (ix2 q (i 1))) * (sxOf m c z * swOf m c z) := by
  have hs : scale (sxOf m c) (swOf m c) = (sxOf m c z * swOf m c z : EReal) := by
    unfold scale; rw [one_index z (Shape.Idx.first (by decide))]; rfl
  have hi : (i 0).val < 1024 := (i 0).isLt
  unfold resultAt outAt k0_pay23
  rw [cast_same, hs]
  refine congrArg (· * (sxOf m c z * swOf m c z : EReal)) ?_
  show stack (rowsAcc m c 0) (rowsAcc m c 1) i = _
  unfold stack
  split
  · rename_i h
    refine (rowsAcc_apply hX hW c 0 ⟨(i 0).val, h⟩ (i 1)).trans ?_
    rw [show row c 0 ⟨(i 0).val, h⟩ = R from Fin.ext (by rw [hR]; show 1024 * c.val + 512 * 0 + (i 0).val = _; omega)]
  · rename_i h
    refine (rowsAcc_apply hX hW c 1 ⟨(i 0).val - 512, by omega⟩ (i 1)).trans ?_
    rw [show row c 1 ⟨(i 0).val - 512, by omega⟩ = R from Fin.ext (by rw [hR]; show 1024 * c.val + 512 * 1 + ((i 0).val - 512) = _; omega)]
end Whole

end Cert.Exchange

end
-- ==== Proof.lean ====
/- The claim: the three programs run and leave their arguments and semaphores as they were, the kernel read over
   the extended reals is the kernel's own text, and its result there is the reference's, each device's block of it. -/
module

public import proofs.«01_k».proof.Defs
public import proofs.«01_k».proof.Proof.Run
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.StackMember

@[expose] public section

set_option maxRecDepth 16384

noncomputable section

namespace Cert.Proof

open Idealize.ShloMosaic Idealize.ShloMosaic.TcCoe Idealize.SL.Sem Idealize.ShloMosaic.StackMember

/-! ## The frames -/

section Same
variable {F : FTy → Type} [FloatOps F]

/-- The kernel's text is printed twice, for its own values and for the extended reals; the two are one program: its body, -/
theorem body_same : Cert.Kernel.cc0_body (F := F) = Cert.KernelIdeal.cc0_body (F := F) := rfl
/-- the table of bodies, -/
theorem bodies_same : Cert.Kernel.defs₀ (F := F) = Cert.KernelIdeal.defs₀ (F := F) :=
  congrArg Defs.onTc (funext fun l => by
    match l with
    | 0 => exact funext fun (t, s) => rfl
    | ⟨_ + 1, h⟩ => exact absurd h (Nat.not_lt.2 (Nat.le_add_left _ _)))
theorem defs_same : Cert.Kernel.defs (F := F) = Cert.KernelIdeal.defs (F := F) :=
  congrArg (Pipeline.defs Cert.KernelIdeal.pcfgs) bodies_same
/-- and `main`. -/
theorem main_same : Cert.Kernel.main (F := F) = Cert.KernelIdeal.main (F := F) := rfl
end Same

/-- The kernel as compiled runs, its arguments end unchanged, every semaphore ends at zero. -/
theorem frame_kernel : Cert.quiescent_Kernel := fun m g _ => by
  rw [defs_same, main_same]
  exact (θ_run Cert.KernelIdeal.defs _ _).mono (fun _ h => ⟨fun c => (h.1 c).2, h.2⟩) (Cert.Exchange.run_main (F := Bits) m g)

/-- The kernel over the extended reals: the same. -/
theorem frame_ideal : Cert.quiescent_KernelIdeal := fun m g _ =>
  (θ_run Cert.KernelIdeal.defs _ _).mono (fun _ h => ⟨fun c => (h.1 c).2, h.2⟩) (Cert.Exchange.run_main (F := Ideal) m g)

/-- The reference over the extended reals: the same; it has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-! ## The result -/

section Result
open Cert.ReferenceIdeal Cert.ReferenceIdeal.Gen

/-- What the reference computes of its four arguments. -/
def product (X : S4096x4096.Idx → Elt Ideal .f32) (W : S4096x2048.Idx → Elt Ideal .f32) (sx sw : S1.Idx → Elt Ideal .f32) : S4096x2048.Idx → Elt Ideal .f32 :=
  mulf (F := Ideal) (φ := .f32) (Host.dotGeneral (F := Ideal) (φ₁ := .f32) (φ₂ := .f32) dot_S4096x4096_S4096x2048_S4096x2048_1_0_0_1_n_n none X W)
    (broadcastInDim S4096x2048 ![0, 1] bcast_S1x1_S4096x2048_0_1 (broadcastInDim S1x1 ![1] bcast_S1_S1x1_1 (mulf (F := Ideal) (φ := .f32) sx sw)))

/-- An element of it: a row of `x` times a column of `w`, scaled. -/
theorem product_apply (X : S4096x4096.Idx → EReal) (W : S4096x2048.Idx → EReal) (sx sw : S1.Idx → EReal) (a : Fin 4096) (b : Fin 2048) (z : S1.Idx) :
    product X W sx sw (Idealize.ShloMosaic.ValueIdx.ix2 a b) = (∑ q : Fin 4096, X (Idealize.ShloMosaic.ValueIdx.ix2 a q) * W (Idealize.ShloMosaic.ValueIdx.ix2 q b)) * (sx z * sw z) := by
  have hs : ∀ z' : S1.Idx, mulf (F := Ideal) (φ := .f32) sx sw z' = sx z * sw z := fun z' => by rw [Cert.Exchange.one_index z' z]; rfl
  refine congrArg₂ (· * ·) ?_ (hs _)
  exact dotGeneral_plain_apply (m := 4096) (k := 4096) (n := 2048) (φ₁ := .f32) (φ₂ := .f32) none X W a b
end Result

/-- Each device's result is its block of the reference's, over the extended reals. -/
theorem result_same : Cert.algebraic_KernelIdeal_ReferenceIdeal := fun m g m' g' _ hm => by
  refine ⟨product (m' ((0 : Dev 1).tc.loc Cert.ReferenceIdeal.main_arg0)) (m' ((0 : Dev 1).tc.loc Cert.ReferenceIdeal.main_arg1))
    (m' ((0 : Dev 1).tc.loc Cert.ReferenceIdeal.main_arg2)) (m' ((0 : Dev 1).tc.loc Cert.ReferenceIdeal.main_arg3)), ?_, ?_⟩
  · refine (θ_run Cert.KernelIdeal.defs _ _).mono (fun _ h c => ⟨(h.1 c).1.trans (funext fun i => ?_), (h.1 c).2⟩) (Cert.Exchange.run_main (F := Ideal) m g)
    have hi : (i 0).val < 1024 := (i 0).isLt
    have hc : c.val < 4 := c.isLt
    have z : Cert.KernelIdeal.S1.Idx := Shape.Idx.first (by decide)
    refine (Cert.Exchange.resultAt_apply (fun d => (hm d).1) (fun d => (hm d).2.1) c i ⟨1024 * c.val + (i 0).val, by omega⟩ rfl z).trans ?_
    rw [show Cert.Exchange.sxOf m c = _ from (hm c).2.2.1, show Cert.Exchange.swOf m c = _ from (hm c).2.2.2]
    refine (product_apply _ _ _ _ ⟨1024 * c.val + (i 0).val, by omega⟩ (i 1) z).symm.trans ?_
    refine congrArg (product _ _ _ _) (funext fun x => Fin.ext ?_)
    match x with
    | ⟨0, _⟩ => show 1024 * c.val + (i 0).val = c.val * 1024 + (i 0).val; omega
    | ⟨1, _⟩ => rfl
  · exact (θ_run Cert.ReferenceIdeal.defs _ _).mono (fun _ h => h 0) (Cert.ReferenceIdeal.Value.run (F := Ideal) m' g')

theorem claim : Cert.Claim := ⟨Cert.Kernel.Gen.facts, Cert.KernelIdeal.Gen.facts, Cert.ReferenceIdeal.Gen.facts,
  frame_kernel, frame_ideal, frame_reference, trivial, result_same⟩

end Cert.Proof

end
